-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S32x3x512x512 : Shape := ⟨4, ![32, 3, 512, 512]⟩
abbrev S1001 : Shape := ⟨1, ![1001]⟩
abbrev S64 : Shape := ⟨1, ![64]⟩
abbrev S32 : Shape := ⟨1, ![32]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S32x3x512x512 .f32) (main_arg1 : FVec F S1001 .f32) (main_arg2 : FVec F S1001 .f32) (main_arg3 : IVec S64 32) (main_arg4 : IVec S32 32) (main_arg5 : FVec F S32x3x512x512 .f32) : IVec S_ 1 :=
  let main_c : IVec S_ 32 := constantI S_ 32 0#32
  let main_v0 : IVec S64 32 := broadcastInDim S64 ![] bcast_S_S64 main_c
  let main_v1 : IVec S64 1 := cmpi .sge main_arg3 main_v0
  let main_c_0 : IVec S_ 1 := constantI S_ 1 1#1
  let main_v2 : IVec S_ 1 := (fun x v => Host.reduce IntOp.andi x v reducesTo_S64_S_d0 h_S_) main_v1 main_c_0
  let main_c_1 : IVec S_ 32 := constantI S_ 32 1000#32
  let main_v3 : IVec S64 32 := broadcastInDim S64 ![] bcast_S_S64 main_c_1
  let main_v4 : IVec S64 1 := cmpi .sle main_arg3 main_v3
  let main_c_2 : IVec S_ 1 := constantI S_ 1 1#1
  let main_v5 : IVec S_ 1 := (fun x v => Host.reduce IntOp.andi x v reducesTo_S64_S_d0 h_S_) main_v4 main_c_2
  let main_v6 : IVec S_ 1 := andi main_v2 main_v5
  let main_c_3 : IVec S_ 32 := constantI S_ 32 0#32
  let main_v7 : IVec S32 32 := broadcastInDim S32 ![] bcast_S_S32 main_c_3
  let main_v8 : IVec S32 1 := cmpi .sge main_arg4 main_v7
  let main_c_4 : IVec S_ 1 := constantI S_ 1 1#1
  let main_v9 : IVec S_ 1 := (fun x v => Host.reduce IntOp.andi x v reducesTo_S32_S_d0 h_S_) main_v8 main_c_4
  let main_v10 : IVec S_ 1 := andi main_v6 main_v9
  let main_c_5 : IVec S_ 32 := constantI S_ 32 64#32
  let main_v11 : IVec S32 32 := broadcastInDim S32 ![] bcast_S_S32 main_c_5
  let main_v12 : IVec S32 1 := cmpi .slt main_arg4 main_v11
  let main_c_6 : IVec S_ 1 := constantI S_ 1 1#1
  let main_v13 : IVec S_ 1 := (fun x v => Host.reduce IntOp.andi x v reducesTo_S32_S_d0 h_S_) main_v12 main_c_6
  let main_v14 : IVec S_ 1 := andi main_v10 main_v13
  main_v14
-- ==== Kernel.lean ====
abbrev S32x3x512x512 : Shape := ⟨4, ![32, 3, 512, 512]⟩
abbrev S1001 : Shape := ⟨1, ![1001]⟩
abbrev S64 : Shape := ⟨1, ![64]⟩
abbrev S32 : Shape := ⟨1, ![32]⟩
abbrev S_ : Shape := ⟨0, ![]⟩
abbrev S1 : Shape := ⟨1, ![1]⟩
abbrev S2x3x512x512 : Shape := ⟨4, ![2, 3, 512, 512]⟩
abbrev S1x3x512x512 : Shape := ⟨4, ![1, 3, 512, 512]⟩
abbrev S3x512x512 : Shape := ⟨3, ![3, 512, 512]⟩
abbrev S32x1 : Shape := ⟨2, ![32, 1]⟩

abbrev nBuf : Table → Nat
  | .hbm => 9
  | .local .tc .vmem => 6
  | .local .tc .smem => 4
  | .local .scScalar .smem => 3
  | _ => 0

abbrev bufTy : (tb : Table) → Fin (nBuf tb) → BufTy
  | .hbm, ⟨0, _⟩ => ⟨S32x3x512x512, .f32⟩
  | .hbm, ⟨1, _⟩ => ⟨S1001, .f32⟩
  | .hbm, ⟨2, _⟩ => ⟨S1001, .f32⟩
  | .hbm, ⟨3, _⟩ => ⟨S64, .i32⟩
  | .hbm, ⟨4, _⟩ => ⟨S32, .i32⟩
  | .hbm, ⟨5, _⟩ => ⟨S32x3x512x512, .f32⟩
  | .hbm, ⟨6, _⟩ => ⟨S32, .i32⟩
  | .hbm, ⟨7, _⟩ => ⟨S32x3x512x512, .f32⟩
  | .hbm, ⟨8, _⟩ => ⟨S32x1, .i32⟩
  | .local .tc .vmem, ⟨0, _⟩ => ⟨S2x3x512x512, .f32⟩
  | .local .tc .vmem, ⟨1, _⟩ => ⟨S2x3x512x512, .f32⟩
  | .local .tc .vmem, ⟨2, _⟩ => ⟨S2x3x512x512, .f32⟩
  | .local .tc .vmem, ⟨3, _⟩ => ⟨S2x3x512x512, .f32⟩
  | .local .tc .vmem, ⟨4, _⟩ => ⟨S2x3x512x512, .f32⟩
  | .local .tc .vmem, ⟨5, _⟩ => ⟨S2x3x512x512, .f32⟩
  | .local .tc .smem, ⟨0, _⟩ => ⟨S32, .i32⟩
  | .local .tc .smem, ⟨1, _⟩ => ⟨S64, .i32⟩
  | .local .tc .smem, ⟨2, _⟩ => ⟨S1001, .f32⟩
  | .local .tc .smem, ⟨3, _⟩ => ⟨S1001, .f32⟩
  | .local .scScalar .smem, ⟨0, _⟩ => ⟨S64, .i32⟩
  | .local .scScalar .smem, ⟨1, _⟩ => ⟨S32, .i32⟩
  | .local .scScalar .smem, ⟨2, _⟩ => ⟨S32, .i32⟩
  | _, _ => ⟨S32x3x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_arg3_scs : Ref sig .scScalar := ⟨.hbm, 3, rfl⟩
abbrev main_arg4_scs : Ref sig .scScalar := ⟨.hbm, 4, rfl⟩
abbrev main_v0_scs : Ref sig .scScalar := ⟨.hbm, 6, rfl⟩
abbrev cc1_stg4_0 : Ref sig .tc := ⟨.vmem, 0, rfl⟩
abbrev cc1_stg4_1 : Ref sig .tc := ⟨.vmem, 1, rfl⟩
abbrev cc1_stg5_0 : Ref sig .tc := ⟨.vmem, 2, rfl⟩
abbrev cc1_stg5_1 : Ref sig .tc := ⟨.vmem, 3, rfl⟩
abbrev cc1_stg6_0 : Ref sig .tc := ⟨.vmem, 4, rfl⟩
abbrev cc1_stg6_1 : Ref sig .tc := ⟨.vmem, 5, rfl⟩
abbrev cc1_stg0_0 : Ref sig .tc := ⟨.smem, 0, rfl⟩
abbrev cc1_stg1_0 : Ref sig .tc := ⟨.smem, 1, rfl⟩
abbrev cc1_stg2_0 : Ref sig .tc := ⟨.smem, 2, rfl⟩
abbrev cc1_stg3_0 : Ref sig .tc := ⟨.smem, 3, rfl⟩
abbrev cc0_scratch0 : Ref sig .scScalar := ⟨.smem, 0, rfl⟩
abbrev cc0_scratch1 : Ref sig .scScalar := ⟨.smem, 1, rfl⟩
abbrev cc0_scratch2 : Ref sig .scScalar := ⟨.smem, 2, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem4_1 : DmaSem sig := 8
abbrev cc1_sem5_0 : DmaSem sig := 9
abbrev cc1_sem5_1 : DmaSem sig := 10
abbrev cc1_sem6_0 : DmaSem sig := 11
abbrev cc1_sem6_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v4 : BitVec 32) : Fin 1 → Nat :=
  let v5 : Index := Scalar.indexCast v4
  ![v5.toNat]

def k0_chk1 (i : grid0.Coords) (v4 : BitVec 32) : Prop :=
  (∀ (k0_h1 : k0_cond1 i = 1#1), ∀ a, (k0_off1 v4) a + S1.size a ≤ S64.size a)
theorem k0_off1_inb : ∀ (i : grid0.Coords) (v4 : BitVec 32) (k0_hw1 : k0_chk1 i v4), ∀ (k0_h1 : k0_cond1 i = 1#1), ∀ a, (k0_off1 v4) a + S1.size a ≤ S64.size a := fun i v4 k0_hw1 k0_h1 => k0_hw1 k0_h1

def k0_off2 (v10 : BitVec 32) : Fin 1 → Nat :=
  let v11 : Index := Scalar.indexCast v10
  ![v11.toNat]

def k0_chk2 (i : grid0.Coords) (v10 : BitVec 32) : Prop :=
  (∀ (k0_h1 : k0_cond1 i = 1#1), ∀ a, (k0_off2 v10) a + S1.size a ≤ S64.size a)
theorem k0_off2_inb : ∀ (i : grid0.Coords) (v10 : BitVec 32) (k0_hw2 : k0_chk2 i v10), ∀ (k0_h1 : k0_cond1 i = 1#1), ∀ a, (k0_off2 v10) a + S1.size a ≤ S64.size a := fun i v10 k0_hw2 k0_h1 => k0_hw2 k0_h1

def k0_off3 (v16 : BitVec 32) : Fin 1 → Nat :=
  let v17 : Index := Scalar.indexCast v16
  ![v17.toNat]

def k0_chk3 (i : grid0.Coords) (v16 : BitVec 32) : Prop :=
  (∀ (k0_h1 : k0_cond1 i = 1#1), ∀ a, (k0_off3 v16) a + S1.size a ≤ S64.size a)
theorem k0_off3_inb : ∀ (i : grid0.Coords) (v16 : BitVec 32) (k0_hw3 : k0_chk3 i v16), ∀ (k0_h1 : k0_cond1 i = 1#1), ∀ a, (k0_off3 v16) a + S1.size a ≤ S64.size a := fun i v16 k0_hw3 k0_h1 => k0_hw3 k0_h1

def k0_off4 (v22 : BitVec 32) : Fin 1 → Nat :=
  let v23 : Index := Scalar.indexCast v22
  ![v23.toNat]

def k0_chk4 (i : grid0.Coords) (v22 : BitVec 32) : Prop :=
  (∀ (k0_h1 : k0_cond1 i = 1#1), ∀ a, (k0_off4 v22) a + S1.size a ≤ S64.size a)
theorem k0_off4_inb : ∀ (i : grid0.Coords) (v22 : BitVec 32) (k0_hw4 : k0_chk4 i v22), ∀ (k0_h1 : k0_cond1 i = 1#1), ∀ a, (k0_off4 v22) a + S1.size a ≤ S64.size a := fun i v22 k0_hw4 k0_h1 => k0_hw4 k0_h1

def k0_off5 (v28 : BitVec 32) : Fin 1 → Nat :=
  let v29 : Index := Scalar.indexCast v28
  ![v29.toNat]

def k0_chk5 (i : grid0.Coords) (v28 : BitVec 32) : Prop :=
  (∀ (k0_h1 : k0_cond1 i = 1#1), ∀ a, (k0_off5 v28) a + S1.size a ≤ S64.size a)
theorem k0_off5_inb : ∀ (i : grid0.Coords) (v28 : BitVec 32) (k0_hw5 : k0_chk5 i v28), ∀ (k0_h1 : k0_cond1 i = 1#1), ∀ a, (k0_off5 v28) a + S1.size a ≤ S64.size a := fun i v28 k0_hw5 k0_h1 => k0_hw5 k0_h1

def k0_off6 (v34 : BitVec 32) : Fin 1 → Nat :=
  let v35 : Index := Scalar.indexCast v34
  ![v35.toNat]

def k0_chk6 (i : grid0.Coords) (v34 : BitVec 32) : Prop :=
  (∀ (k0_h1 : k0_cond1 i = 1#1), ∀ a, (k0_off6 v34) a + S1.size a ≤ S64.size a)
theorem k0_off6_inb : ∀ (i : grid0.Coords) (v34 : BitVec 32) (k0_hw6 : k0_chk6 i v34), ∀ (k0_h1 : k0_cond1 i = 1#1), ∀ a, (k0_off6 v34) a + S1.size a ≤ S64.size a := fun i v34 k0_hw6 k0_h1 => k0_hw6 k0_h1

def k0_off7 (v40 : BitVec 32) : Fin 1 → Nat :=
  let v41 : Index := Scalar.indexCast v40
  ![v41.toNat]

def k0_chk7 (i : grid0.Coords) (v40 : BitVec 32) : Prop :=
  (∀ (k0_h1 : k0_cond1 i = 1#1), ∀ a, (k0_off7 v40) a + S1.size a ≤ S64.size a)
theorem k0_off7_inb : ∀ (i : grid0.Coords) (v40 : BitVec 32) (k0_hw7 : k0_chk7 i v40), ∀ (k0_h1 : k0_cond1 i = 1#1), ∀ a, (k0_off7 v40) a + S1.size a ≤ S64.size a := fun i v40 k0_hw7 k0_h1 => k0_hw7 k0_h1

def k0_off8 (v46 : BitVec 32) : Fin 1 → Nat :=
  let v47 : Index := Scalar.indexCast v46
  ![v47.toNat]

def k0_chk8 (i : grid0.Coords) (v46 : BitVec 32) : Prop :=
  (∀ (k0_h1 : k0_cond1 i = 1#1), ∀ a, (k0_off8 v46) a + S1.size a ≤ S64.size a)
theorem k0_off8_inb : ∀ (i : grid0.Coords) (v46 : BitVec 32) (k0_hw8 : k0_chk8 i v46), ∀ (k0_h1 : k0_cond1 i = 1#1), ∀ a, (k0_off8 v46) a + S1.size a ≤ S64.size a := fun i v46 k0_hw8 k0_h1 => k0_hw8 k0_h1

def k0_off9 (v52 : BitVec 32) : Fin 1 → Nat :=
  let v53 : Index := Scalar.indexCast v52
  ![v53.toNat]

def k0_chk9 (i : grid0.Coords) (v52 : BitVec 32) : Prop :=
  (∀ (k0_h1 : k0_cond1 i = 1#1), ∀ a, (k0_off9 v52) a + S1.size a ≤ S64.size a)
theorem k0_off9_inb : ∀ (i : grid0.Coords) (v52 : BitVec 32) (k0_hw9 : k0_chk9 i v52), ∀ (k0_h1 : k0_cond1 i = 1#1), ∀ a, (k0_off9 v52) a + S1.size a ≤ S64.size a := fun i v52 k0_hw9 k0_h1 => k0_hw9 k0_h1

def k0_off10 (v58 : BitVec 32) : Fin 1 → Nat :=
  let v59 : Index := Scalar.indexCast v58
  ![v59.toNat]

def k0_chk10 (i : grid0.Coords) (v58 : BitVec 32) : Prop :=
  (∀ (k0_h1 : k0_cond1 i = 1#1), ∀ a, (k0_off10 v58) a + S1.size a ≤ S64.size a)
theorem k0_off10_inb : ∀ (i : grid0.Coords) (v58 : BitVec 32) (k0_hw10 : k0_chk10 i v58), ∀ (k0_h1 : k0_cond1 i = 1#1), ∀ a, (k0_off10 v58) a + S1.size a ≤ S64.size a := fun i v58 k0_hw10 k0_h1 => k0_hw10 k0_h1

def k0_off11 (v64 : BitVec 32) : Fin 1 → Nat :=
  let v65 : Index := Scalar.indexCast v64
  ![v65.toNat]

def k0_chk11 (i : grid0.Coords) (v64 : BitVec 32) : Prop :=
  (∀ (k0_h1 : k0_cond1 i = 1#1), ∀ a, (k0_off11 v64) a + S1.size a ≤ S64.size a)
theorem k0_off11_inb : ∀ (i : grid0.Coords) (v64 : BitVec 32) (k0_hw11 : k0_chk11 i v64), ∀ (k0_h1 : k0_cond1 i = 1#1), ∀ a, (k0_off11 v64) a + S1.size a ≤ S64.size a := fun i v64 k0_hw11 k0_h1 => k0_hw11 k0_h1

def k0_off12 (v70 : BitVec 32) : Fin 1 → Nat :=
  let v71 : Index := Scalar.indexCast v70
  ![v71.toNat]

def k0_chk12 (i : grid0.Coords) (v70 : BitVec 32) : Prop :=
  (∀ (k0_h1 : k0_cond1 i = 1#1), ∀ a, (k0_off12 v70) a + S1.size a ≤ S64.size a)
theorem k0_off12_inb : ∀ (i : grid0.Coords) (v70 : BitVec 32) (k0_hw12 : k0_chk12 i v70), ∀ (k0_h1 : k0_cond1 i = 1#1), ∀ a, (k0_off12 v70) a + S1.size a ≤ S64.size a := fun i v70 k0_hw12 k0_h1 => k0_hw12 k0_h1

def k0_off13 (v76 : BitVec 32) : Fin 1 → Nat :=
  let v77 : Index := Scalar.indexCast v76
  ![v77.toNat]

def k0_chk13 (i : grid0.Coords) (v76 : BitVec 32) : Prop :=
  (∀ (k0_h1 : k0_cond1 i = 1#1), ∀ a, (k0_off13 v76) a + S1.size a ≤ S64.size a)
theorem k0_off13_inb : ∀ (i : grid0.Coords) (v76 : BitVec 32) (k0_hw13 : k0_chk13 i v76), ∀ (k0_h1 : k0_cond1 i = 1#1), ∀ a, (k0_off13 v76) a + S1.size a ≤ S64.size a := fun i v76 k0_hw13 k0_h1 => k0_hw13 k0_h1

def k0_off14 (v82 : BitVec 32) : Fin 1 → Nat :=
  let v83 : Index := Scalar.indexCast v82
  ![v83.toNat]

def k0_chk14 (i : grid0.Coords) (v82 : BitVec 32) : Prop :=
  (∀ (k0_h1 : k0_cond1 i = 1#1), ∀ a, (k0_off14 v82) a + S1.size a ≤ S64.size a)
theorem k0_off14_inb : ∀ (i : grid0.Coords) (v82 : BitVec 32) (k0_hw14 : k0_chk14 i v82), ∀ (k0_h1 : k0_cond1 i = 1#1), ∀ a, (k0_off14 v82) a + S1.size a ≤ S64.size a := fun i v82 k0_hw14 k0_h1 => k0_hw14 k0_h1

def k0_off15 (v88 : BitVec 32) : Fin 1 → Nat :=
  let v89 : Index := Scalar.indexCast v88
  ![v89.toNat]

def k0_chk15 (i : grid0.Coords) (v88 : BitVec 32) : Prop :=
  (∀ (k0_h1 : k0_cond1 i = 1#1), ∀ a, (k0_off15 v88) a + S1.size a ≤ S64.size a)
theorem k0_off15_inb : ∀ (i : grid0.Coords) (v88 : BitVec 32) (k0_hw15 : k0_chk15 i v88), ∀ (k0_h1 : k0_cond1 i = 1#1), ∀ a, (k0_off15 v88) a + S1.size a ≤ S64.size a := fun i v88 k0_hw15 k0_h1 => k0_hw15 k0_h1

def k0_off16 (v94 : BitVec 32) : Fin 1 → Nat :=
  let v95 : Index := Scalar.indexCast v94
  ![v95.toNat]

def k0_chk16 (i : grid0.Coords) (v94 : BitVec 32) : Prop :=
  (∀ (k0_h1 : k0_cond1 i = 1#1), ∀ a, (k0_off16 v94) a + S1.size a ≤ S64.size a)
theorem k0_off16_inb : ∀ (i : grid0.Coords) (v94 : BitVec 32) (k0_hw16 : k0_chk16 i v94), ∀ (k0_h1 : k0_cond1 i = 1#1), ∀ a, (k0_off16 v94) a + S1.size a ≤ S64.size a := fun i v94 k0_hw16 k0_h1 => k0_hw16 k0_h1

def k0_off17 (v100 : BitVec 32) : Fin 1 → Nat :=
  let v101 : Index := Scalar.indexCast v100
  ![v101.toNat]

def k0_chk17 (i : grid0.Coords) (v100 : BitVec 32) : Prop :=
  (∀ (k0_h1 : k0_cond1 i = 1#1), ∀ a, (k0_off17 v100) a + S1.size a ≤ S64.size a)
theorem k0_off17_inb : ∀ (i : grid0.Coords) (v100 : BitVec 32) (k0_hw17 : k0_chk17 i v100), ∀ (k0_h1 : k0_cond1 i = 1#1), ∀ a, (k0_off17 v100) a + S1.size a ≤ S64.size a := fun i v100 k0_hw17 k0_h1 => k0_hw17 k0_h1

def k0_off18 (v106 : BitVec 32) : Fin 1 → Nat :=
  let v107 : Index := Scalar.indexCast v106
  ![v107.toNat]

def k0_chk18 (i : grid0.Coords) (v106 : BitVec 32) : Prop :=
  (∀ (k0_h1 : k0_cond1 i = 1#1), ∀ a, (k0_off18 v106) a + S1.size a ≤ S64.size a)
theorem k0_off18_inb : ∀ (i : grid0.Coords) (v106 : BitVec 32) (k0_hw18 : k0_chk18 i v106), ∀ (k0_h1 : k0_cond1 i = 1#1), ∀ a, (k0_off18 v106) a + S1.size a ≤ S64.size a := fun i v106 k0_hw18 k0_h1 => k0_hw18 k0_h1

def k0_off19 (v112 : BitVec 32) : Fin 1 → Nat :=
  let v113 : Index := Scalar.indexCast v112
  ![v113.toNat]

def k0_chk19 (i : grid0.Coords) (v112 : BitVec 32) : Prop :=
  (∀ (k0_h1 : k0_cond1 i = 1#1), ∀ a, (k0_off19 v112) a + S1.size a ≤ S64.size a)
theorem k0_off19_inb : ∀ (i : grid0.Coords) (v112 : BitVec 32) (k0_hw19 : k0_chk19 i v112), ∀ (k0_h1 : k0_cond1 i = 1#1), ∀ a, (k0_off19 v112) a + S1.size a ≤ S64.size a := fun i v112 k0_hw19 k0_h1 => k0_hw19 k0_h1

def k0_off20 (v118 : BitVec 32) : Fin 1 → Nat :=
  let v119 : Index := Scalar.indexCast v118
  ![v119.toNat]

def k0_chk20 (i : grid0.Coords) (v118 : BitVec 32) : Prop :=
  (∀ (k0_h1 : k0_cond1 i = 1#1), ∀ a, (k0_off20 v118) a + S1.size a ≤ S64.size a)
theorem k0_off20_inb : ∀ (i : grid0.Coords) (v118 : BitVec 32) (k0_hw20 : k0_chk20 i v118), ∀ (k0_h1 : k0_cond1 i = 1#1), ∀ a, (k0_off20 v118) a + S1.size a ≤ S64.size a := fun i v118 k0_hw20 k0_h1 => k0_hw20 k0_h1

def k0_off21 (v124 : BitVec 32) : Fin 1 → Nat :=
  let v125 : Index := Scalar.indexCast v124
  ![v125.toNat]

def k0_chk21 (i : grid0.Coords) (v124 : BitVec 32) : Prop :=
  (∀ (k0_h1 : k0_cond1 i = 1#1), ∀ a, (k0_off21 v124) a + S1.size a ≤ S64.size a)
theorem k0_off21_inb : ∀ (i : grid0.Coords) (v124 : BitVec 32) (k0_hw21 : k0_chk21 i v124), ∀ (k0_h1 : k0_cond1 i = 1#1), ∀ a, (k0_off21 v124) a + S1.size a ≤ S64.size a := fun i v124 k0_hw21 k0_h1 => k0_hw21 k0_h1

def k0_off22 (v130 : BitVec 32) : Fin 1 → Nat :=
  let v131 : Index := Scalar.indexCast v130
  ![v131.toNat]

def k0_chk22 (i : grid0.Coords) (v130 : BitVec 32) : Prop :=
  (∀ (k0_h1 : k0_cond1 i = 1#1), ∀ a, (k0_off22 v130) a + S1.size a ≤ S64.size a)
theorem k0_off22_inb : ∀ (i : grid0.Coords) (v130 : BitVec 32) (k0_hw22 : k0_chk22 i v130), ∀ (k0_h1 : k0_cond1 i = 1#1), ∀ a, (k0_off22 v130) a + S1.size a ≤ S64.size a := fun i v130 k0_hw22 k0_h1 => k0_hw22 k0_h1

def k0_off23 (v136 : BitVec 32) : Fin 1 → Nat :=
  let v137 : Index := Scalar.indexCast v136
  ![v137.toNat]

def k0_chk23 (i : grid0.Coords) (v136 : BitVec 32) : Prop :=
  (∀ (k0_h1 : k0_cond1 i = 1#1), ∀ a, (k0_off23 v136) a + S1.size a ≤ S64.size a)
theorem k0_off23_inb : ∀ (i : grid0.Coords) (v136 : BitVec 32) (k0_hw23 : k0_chk23 i v136), ∀ (k0_h1 : k0_cond1 i = 1#1), ∀ a, (k0_off23 v136) a + S1.size a ≤ S64.size a := fun i v136 k0_hw23 k0_h1 => k0_hw23 k0_h1

def k0_off24 (v142 : BitVec 32) : Fin 1 → Nat :=
  let v143 : Index := Scalar.indexCast v142
  ![v143.toNat]

def k0_chk24 (i : grid0.Coords) (v142 : BitVec 32) : Prop :=
  (∀ (k0_h1 : k0_cond1 i = 1#1), ∀ a, (k0_off24 v142) a + S1.size a ≤ S64.size a)
theorem k0_off24_inb : ∀ (i : grid0.Coords) (v142 : BitVec 32) (k0_hw24 : k0_chk24 i v142), ∀ (k0_h1 : k0_cond1 i = 1#1), ∀ a, (k0_off24 v142) a + S1.size a ≤ S64.size a := fun i v142 k0_hw24 k0_h1 => k0_hw24 k0_h1

def k0_off25 (v148 : BitVec 32) : Fin 1 → Nat :=
  let v149 : Index := Scalar.indexCast v148
  ![v149.toNat]

def k0_chk25 (i : grid0.Coords) (v148 : BitVec 32) : Prop :=
  (∀ (k0_h1 : k0_cond1 i = 1#1), ∀ a, (k0_off25 v148) a + S1.size a ≤ S64.size a)
theorem k0_off25_inb : ∀ (i : grid0.Coords) (v148 : BitVec 32) (k0_hw25 : k0_chk25 i v148), ∀ (k0_h1 : k0_cond1 i = 1#1), ∀ a, (k0_off25 v148) a + S1.size a ≤ S64.size a := fun i v148 k0_hw25 k0_h1 => k0_hw25 k0_h1

def k0_off26 (v154 : BitVec 32) : Fin 1 → Nat :=
  let v155 : Index := Scalar.indexCast v154
  ![v155.toNat]

def k0_chk26 (i : grid0.Coords) (v154 : BitVec 32) : Prop :=
  (∀ (k0_h1 : k0_cond1 i = 1#1), ∀ a, (k0_off26 v154) a + S1.size a ≤ S64.size a)
theorem k0_off26_inb : ∀ (i : grid0.Coords) (v154 : BitVec 32) (k0_hw26 : k0_chk26 i v154), ∀ (k0_h1 : k0_cond1 i = 1#1), ∀ a, (k0_off26 v154) a + S1.size a ≤ S64.size a := fun i v154 k0_hw26 k0_h1 => k0_hw26 k0_h1

def k0_off27 (v160 : BitVec 32) : Fin 1 → Nat :=
  let v161 : Index := Scalar.indexCast v160
  ![v161.toNat]

def k0_chk27 (i : grid0.Coords) (v160 : BitVec 32) : Prop :=
  (∀ (k0_h1 : k0_cond1 i = 1#1), ∀ a, (k0_off27 v160) a + S1.size a ≤ S64.size a)
theorem k0_off27_inb : ∀ (i : grid0.Coords) (v160 : BitVec 32) (k0_hw27 : k0_chk27 i v160), ∀ (k0_h1 : k0_cond1 i = 1#1), ∀ a, (k0_off27 v160) a + S1.size a ≤ S64.size a := fun i v160 k0_hw27 k0_h1 => k0_hw27 k0_h1

def k0_off28 (v166 : BitVec 32) : Fin 1 → Nat :=
  let v167 : Index := Scalar.indexCast v166
  ![v167.toNat]

def k0_chk28 (i : grid0.Coords) (v166 : BitVec 32) : Prop :=
  (∀ (k0_h1 : k0_cond1 i = 1#1), ∀ a, (k0_off28 v166) a + S1.size a ≤ S64.size a)
theorem k0_off28_inb : ∀ (i : grid0.Coords) (v166 : BitVec 32) (k0_hw28 : k0_chk28 i v166), ∀ (k0_h1 : k0_cond1 i = 1#1), ∀ a, (k0_off28 v166) a + S1.size a ≤ S64.size a := fun i v166 k0_hw28 k0_h1 => k0_hw28 k0_h1

def k0_off29 (v172 : BitVec 32) : Fin 1 → Nat :=
  let v173 : Index := Scalar.indexCast v172
  ![v173.toNat]

def k0_chk29 (i : grid0.Coords) (v172 : BitVec 32) : Prop :=
  (∀ (k0_h1 : k0_cond1 i = 1#1), ∀ a, (k0_off29 v172) a + S1.size a ≤ S64.size a)
theorem k0_off29_inb : ∀ (i : grid0.Coords) (v172 : BitVec 32) (k0_hw29 : k0_chk29 i v172), ∀ (k0_h1 : k0_cond1 i = 1#1), ∀ a, (k0_off29 v172) a + S1.size a ≤ S64.size a := fun i v172 k0_hw29 k0_h1 => k0_hw29 k0_h1

def k0_off30 (v178 : BitVec 32) : Fin 1 → Nat :=
  let v179 : Index := Scalar.indexCast v178
  ![v179.toNat]

def k0_chk30 (i : grid0.Coords) (v178 : BitVec 32) : Prop :=
  (∀ (k0_h1 : k0_cond1 i = 1#1), ∀ a, (k0_off30 v178) a + S1.size a ≤ S64.size a)
theorem k0_off30_inb : ∀ (i : grid0.Coords) (v178 : BitVec 32) (k0_hw30 : k0_chk30 i v178), ∀ (k0_h1 : k0_cond1 i = 1#1), ∀ a, (k0_off30 v178) a + S1.size a ≤ S64.size a := fun i v178 k0_hw30 k0_h1 => k0_hw30 k0_h1

def k0_off31 (v184 : BitVec 32) : Fin 1 → Nat :=
  let v185 : Index := Scalar.indexCast v184
  ![v185.toNat]

def k0_chk31 (i : grid0.Coords) (v184 : BitVec 32) : Prop :=
  (∀ (k0_h1 : k0_cond1 i = 1#1), ∀ a, (k0_off31 v184) a + S1.size a ≤ S64.size a)
theorem k0_off31_inb : ∀ (i : grid0.Coords) (v184 : BitVec 32) (k0_hw31 : k0_chk31 i v184), ∀ (k0_h1 : k0_cond1 i = 1#1), ∀ a, (k0_off31 v184) a + S1.size a ≤ S64.size a := fun i v184 k0_hw31 k0_h1 => k0_hw31 k0_h1

def k0_off32 (v190 : BitVec 32) : Fin 1 → Nat :=
  let v191 : Index := Scalar.indexCast v190
  ![v191.toNat]

def k0_chk32 (i : grid0.Coords) (v190 : BitVec 32) : Prop :=
  (∀ (k0_h1 : k0_cond1 i = 1#1), ∀ a, (k0_off32 v190) a + S1.size a ≤ S64.size a)
theorem k0_off32_inb : ∀ (i : grid0.Coords) (v190 : BitVec 32) (k0_hw32 : k0_chk32 i v190), ∀ (k0_h1 : k0_cond1 i = 1#1), ∀ a, (k0_off32 v190) a + S1.size a ≤ S64.size a := fun i v190 k0_hw32 k0_h1 => k0_hw32 k0_h1

abbrev grid1 : Pipeline.Grid := ⟨1, ![16], ![false]⟩

def k1_off1 (i : grid1.Coords) : Fin 1 → Nat :=
  let c2_i32 : BitVec 32 := 2#32
  let arg0 : BitVec 32 := BitVec.ofNat 32 (i 0).val
  let v0 : BitVec 32 := Scalar.muli c2_i32 arg0
  let v1 : Index := Scalar.indexCast v0
  ![v1.toNat]
def k1_off2 (v2 : BitVec 32) : Fin 1 → Nat :=
  let v3 : Index := Scalar.indexCast v2
  ![v3.toNat]

def k1_chk1 (v2 : BitVec 32) : Prop :=
  (∀ a, (k1_off2 v2) a + S1.size a ≤ S64.size a)
theorem k1_off2_inb : ∀ (v2 : BitVec 32) (k1_hw1 : k1_chk1 v2), ∀ a, (k1_off2 v2) a + S1.size a ≤ S64.size a := fun v2 k1_hw1 => k1_hw1

def k1_off3 (i : grid1.Coords) : Fin 1 → Nat :=
  let c2_i32_0 : BitVec 32 := 2#32
  let arg0 : BitVec 32 := BitVec.ofNat 32 (i 0).val
  let v5 : BitVec 32 := Scalar.muli c2_i32_0 arg0
  let c1_i32 : BitVec 32 := 1#32
  let v6 : BitVec 32 := Scalar.addi v5 c1_i32
  let v7 : Index := Scalar.indexCast v6
  ![v7.toNat]
def k1_off4 (v8 : BitVec 32) : Fin 1 → Nat :=
  let v9 : Index := Scalar.indexCast v8
  ![v9.toNat]

def k1_chk2 (v8 : BitVec 32) : Prop :=
  (∀ a, (k1_off4 v8) a + S1.size a ≤ S64.size a)
theorem k1_off4_inb : ∀ (v8 : BitVec 32) (k1_hw2 : k1_chk2 v8), ∀ a, (k1_off4 v8) a + S1.size a ≤ S64.size a := fun v8 k1_hw2 => k1_hw2

def k1_off5 (v4 : BitVec 32) : Fin 1 → Nat :=
  let v11 : Index := Scalar.indexCast v4
  ![v11.toNat]

def k1_chk3 (v4 : BitVec 32) : Prop :=
  (∀ a, (k1_off5 v4) a + S1.size a ≤ S1001.size a)
theorem k1_off5_inb : ∀ (v4 : BitVec 32) (k1_hw3 : k1_chk3 v4), ∀ a, (k1_off5 v4) a + S1.size a ≤ S1001.size a := fun v4 k1_hw3 => k1_hw3

def k1_off6 (v10 : BitVec 32) : Fin 1 → Nat :=
  let v28 : Index := Scalar.indexCast v10
  ![v28.toNat]

def k1_chk4 (v10 : BitVec 32) : Prop :=
  (∀ a, (k1_off6 v10) a + S1.size a ≤ S1001.size a)
theorem k1_off6_inb : ∀ (v10 : BitVec 32) (k1_hw4 : k1_chk4 v10), ∀ a, (k1_off6 v10) a + S1.size a ≤ S1001.size a := fun v10 k1_hw4 => k1_hw4

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .smem S32 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S64 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S1001 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S1001 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2x3x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x3x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x3x512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S32x3x512x512 : Shape := ⟨4, ![32, 3, 512, 512]⟩
abbrev S1001 : Shape := ⟨1, ![1001]⟩
abbrev S64 : Shape := ⟨1, ![64]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x1x1x1 : Shape := ⟨4, ![32, 1, 1, 1]⟩

abbrev nBuf : Space → Nat
  | .hbm => 83
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S1001, .f32⟩
  | .hbm, ⟨2, _⟩ => ⟨S1001, .f32⟩
  | .hbm, ⟨3, _⟩ => ⟨S64, .i32⟩
  | .hbm, ⟨4, _⟩ => ⟨S32, .i32⟩
  | .hbm, ⟨5, _⟩ => ⟨S32x3x512x512, .f32⟩
  | .hbm, ⟨6, _⟩ => ⟨S_, .i32⟩
  | .hbm, ⟨7, _⟩ => ⟨S32, .i32⟩
  | .hbm, ⟨8, _⟩ => ⟨S32, .i1⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S32x1, .i32⟩
  | .hbm, ⟨14, _⟩ => ⟨S1, .i32⟩
  | .hbm, ⟨15, _⟩ => ⟨S_, .i32⟩
  | .hbm, ⟨16, _⟩ => ⟨S32x1, .i32⟩
  | .hbm, ⟨17, _⟩ => ⟨S32x1, .i1⟩
  | .hbm, ⟨18, _⟩ => ⟨S1x1, .i32⟩
  | .hbm, ⟨19, _⟩ => ⟨S32x1, .i32⟩
  | .hbm, ⟨20, _⟩ => ⟨S32x1, .i1⟩
  | .hbm, ⟨21, _⟩ => ⟨S32x1, .i1⟩
  | .hbm, ⟨22, _⟩ => ⟨S_, .i1⟩
  | .hbm, ⟨23, _⟩ => ⟨S32, .i1⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i1⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S32, .i32⟩
  | .hbm, ⟨35, _⟩ => ⟨S32x1, .i32⟩
  | .hbm, ⟨36, _⟩ => ⟨S1, .i32⟩
  | .hbm, ⟨37, _⟩ => ⟨S_, .i32⟩
  | .hbm, ⟨38, _⟩ => ⟨S32x1, .i32⟩
  | .hbm, ⟨39, _⟩ => ⟨S32x1, .i1⟩
  | .hbm, ⟨40, _⟩ => ⟨S1x1, .i32⟩
  | .hbm, ⟨41, _⟩ => ⟨S32x1, .i32⟩
  | .hbm, ⟨42, _⟩ => ⟨S32x1, .i1⟩
  | .hbm, ⟨43, _⟩ => ⟨S32x1, .i1⟩
  | .hbm, ⟨44, _⟩ => ⟨S_, .i1⟩
  | .hbm, ⟨45, _⟩ => ⟨S32, .i1⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S32x1x1x1, .f32⟩
  | .hbm, ⟨51, _⟩ => ⟨S_, .i32⟩
  | .hbm, ⟨52, _⟩ => ⟨S32, .i32⟩
  | .hbm, ⟨53, _⟩ => ⟨S32, .i1⟩
  | .hbm, ⟨54, _⟩ => ⟨S_, .i32⟩
  | .hbm, ⟨55, _⟩ => ⟨S32, .i32⟩
  | .hbm, ⟨56, _⟩ => ⟨S32, .i32⟩
  | .hbm, ⟨57, _⟩ => ⟨S32, .i32⟩
  | .hbm, ⟨58, _⟩ => ⟨S32x1, .i32⟩
  | .hbm, ⟨59, _⟩ => ⟨S1, .i32⟩
  | .hbm, ⟨60, _⟩ => ⟨S_, .i32⟩
  | .hbm, ⟨61, _⟩ => ⟨S32x1, .i32⟩
  | .hbm, ⟨62, _⟩ => ⟨S32x1, .i1⟩
  | .hbm, ⟨63, _⟩ => ⟨S1x1, .i32⟩
  | .hbm, ⟨64, _⟩ => ⟨S32x1, .i32⟩
  | .hbm, ⟨65, _⟩ => ⟨S32x1, .i1⟩
  | .hbm, ⟨66, _⟩ => ⟨S32x1, .i1⟩
  | .hbm, ⟨67, _⟩ => ⟨S_, .i1⟩
  | .hbm, ⟨68, _⟩ => ⟨S32, .i1⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S32x1x1x1, .f32⟩
  | .hbm, ⟨74, _⟩ => ⟨S32x3x512x512, .f32⟩
  | .hbm, ⟨75, _⟩ => ⟨S32x3x512x512, .f32⟩
  | .hbm, ⟨76, _⟩ => ⟨S_, .f32⟩
  | .hbm, ⟨77, _⟩ => ⟨S32x3x512x512, .f32⟩
  | .hbm, ⟨78, _⟩ => ⟨S32x3x512x512, .f32⟩
  | .hbm, ⟨79, _⟩ => ⟨S32x3x512x512, .f32⟩
  | .hbm, ⟨80, _⟩ => ⟨S32x3x512x512, .f32⟩
  | .hbm, ⟨81, _⟩ => ⟨S32x3x512x512, .f32⟩
  | .hbm, ⟨82, _⟩ => ⟨S32x1, .i32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_c_4 : Ref sig .tc := ⟨.hbm, 25, rfl⟩
abbrev main_call0_v14 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v1 : Ref sig .tc := ⟨.hbm, 49, rfl⟩
abbrev main_v2 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_cst : Ref sig .tc := ⟨.hbm, 70, rfl⟩
abbrev main_call2_v14 : Ref sig .tc := ⟨.hbm, 71, rfl⟩
abbrev main_v3 : Ref sig .tc := ⟨.hbm, 72, rfl⟩
abbrev main_v4 : Ref sig .tc := ⟨.hbm, 73, rfl⟩
abbrev main_v5 : Ref sig .tc := ⟨.hbm, 74, rfl⟩
abbrev main_v6 : Ref sig .tc := ⟨.hbm, 75, rfl⟩
abbrev main_cst : Ref sig .tc := ⟨.hbm, 76, rfl⟩
abbrev main_v7 : Ref sig .tc := ⟨.hbm, 77, rfl⟩
abbrev main_v8 : Ref sig .tc := ⟨.hbm, 78, rfl⟩
abbrev main_v9 : Ref sig .tc := ⟨.hbm, 79, rfl⟩
abbrev main_v10 : Ref sig .tc := ⟨.hbm, 80, rfl⟩
abbrev main_v11 : Ref sig .tc := ⟨.hbm, 81, rfl⟩
abbrev main_v12 : Ref sig .tc := ⟨.hbm, 82, rfl⟩

abbrev nD : Nat := 1
abbrev τ : Topo := Topo.v7x

variable {F : FTy → Type} [FloatOps F]
-- ==== Proof.Range.lean ====
/-
  What the precondition says of each word: a time is at most 1000, an index is below 64.
-/
module

public import proofs.«01_k».proof.Proof.Gen.Pre_in_range
public import Idealize.ShloMosaic.Lib.ReduceAll

@[expose] public section

noncomputable section

namespace Cert.Proof

open Cert.Pre_in_range Cert.Pre_in_range.Gen

open Idealize.ShloMosaic

variable {F : FTy → Type} [FloatOps F]

/-- A word between zero and `top`, with its sign, is a number at most `top`. -/
theorem le_of_cmpi {v top : BitVec 32} (ht : top.toNat < 2 ^ 31) (h0 : IntOp.cmpi .sge v 0#32 = 1#1) (h1 : IntOp.cmpi .sle v top = 1#1) :
    v.toNat ≤ top.toNat := by
  have e (p : Bool) : (BitVec.ofBool p = 1#1) ↔ p = true := by cases p <;> decide
  have h0 := (e ((0#32).sle v)).mp h0
  have h1 := (e (v.sle top)).mp h1
  simp only [BitVec.sle, BitVec.toInt, BitVec.toNat_ofNat, decide_eq_true_eq] at h0 h1
  omega

/-- A word from zero to below `top`, with its sign, is a number below `top`. -/
theorem lt_of_cmpi {v top : BitVec 32} (ht : top.toNat < 2 ^ 31) (h0 : IntOp.cmpi .sge v 0#32 = 1#1) (h1 : IntOp.cmpi .slt v top = 1#1) :
    v.toNat < top.toNat := by
  have e (p : Bool) : (BitVec.ofBool p = 1#1) ↔ p = true := by cases p <;> decide
  have h0 := (e ((0#32).sle v)).mp h0
  have h1 := (e (v.slt top)).mp h1
  simp only [BitVec.sle, BitVec.slt, BitVec.toInt, BitVec.toNat_ofNat, decide_eq_true_eq] at h0 h1
  omega

/-- A scalar has one position. -/
instance : Subsingleton S_.Idx := ⟨fun _ _ => funext fun a => Fin.elim0 a⟩

/-- The precondition bounds every time and every index. -/
theorem in_range_words (x : FVec F S32x3x512x512 .f32) (a b : FVec F S1001 .f32) (tab : IVec S64 32) (idx : IVec S32 32) (n : FVec F S32x3x512x512 .f32)
    (h : Cert.Pre_in_range.fn x a b tab idx n = fun _ => 1#1) : (∀ k, (tab k).toNat < 1001) ∧ ∀ k, (idx k).toNat < 64 := by
  have e := congrFun h (fun a => Fin.elim0 a)
  obtain ⟨e, e4⟩ := IntOp.andi_eq_one.mp e
  obtain ⟨e, e3⟩ := IntOp.andi_eq_one.mp e
  obtain ⟨e1, e2⟩ := IntOp.andi_eq_one.mp e
  refine ⟨fun k => ?_, fun k => ?_⟩
  · have h1 := Host.reduce_andi_all _ _ _ _ _ e1 k
    have h2 := Host.reduce_andi_all _ _ _ _ _ e2 k
    have := le_of_cmpi (top := 1000#32) (by decide) h1 h2
    simp only [BitVec.toNat_ofNat] at this
    omega
  · have h3 := Host.reduce_andi_all _ _ _ _ _ e3 k
    have h4 := Host.reduce_andi_all _ _ _ _ _ e4 k
    have := lt_of_cmpi (top := 64#32) (by decide) h3 h4
    simpa using this

end Cert.Proof
-- ==== Proof.Take.lean ====
/-
  The reference's three looks-up by index, each at one position: the index wrapped if negative, the table read there, and
  the fill put in its place if the index lies outside the table. An index inside the table reads the table.
-/
module

public import proofs.«01_k».proof.Proof.Gen.ReferenceIdeal
public import Idealize.ShloMosaic.Lib.ReduceAll
public import Idealize.ShloMosaic.Lib.ValueIdxCore

@[expose] public section

noncomputable section

namespace Cert.Proof

open Cert.ReferenceIdeal Cert.ReferenceIdeal.Gen

open Idealize.ShloMosaic Idealize.ShloMosaic.ValueIdx

variable {α : Type}

/-! ## A word in a range, by its sign and its bounds -/

/-- A word below `n` is not negative. -/
theorem not_neg {v : BitVec 32} {n : Nat} (hn : n ≤ 2 ^ 31) (h : v.toNat < n) : IntOp.cmpi .slt v 0#32 = 0#1 := by
  have : v.slt 0#32 = false := by
    simp only [BitVec.slt, BitVec.toInt, BitVec.toNat_ofNat, decide_eq_false_iff_not]; omega
  show BitVec.ofBool (v.slt 0#32) = 0#1
  rw [this]; rfl

/-- A word below `n` is at least zero. -/
theorem at_least {v : BitVec 32} {n : Nat} (hn : n ≤ 2 ^ 31) (h : v.toNat < n) : IntOp.cmpi .sge v 0#32 = 1#1 := by
  have : (0#32).sle v = true := by
    simp only [BitVec.sle, BitVec.toInt, BitVec.toNat_ofNat, decide_eq_true_eq]; omega
  show BitVec.ofBool ((0#32).sle v) = 1#1
  rw [this]; rfl

/-- A word below `n` is at most `n - 1`. -/
theorem at_most {v top : BitVec 32} {n : Nat} (hn : n ≤ 2 ^ 31) (ht : top.toNat + 1 = n) (h : v.toNat < n) : IntOp.cmpi .sle v top = 1#1 := by
  have : v.sle top = true := by
    simp only [BitVec.sle, BitVec.toInt, decide_eq_true_eq]; omega
  show BitVec.ofBool (v.sle top) = 1#1
  rw [this]; rfl

/-! ## The parts of a look-up -/

/-- The indices, the negative ones moved up by `n`. -/
abbrev wrapped (n : BitVec 32) (i : IVec S32 32) : IVec S32 32 :=
  select (cmpi .slt i (broadcastInDim S32 ![] bcast_S_S32 (constantI S_ 32 0#32))) (addi i (broadcastInDim S32 ![] bcast_S_S32 (constantI S_ 32 n))) i

/-- The same as a column. -/
abbrev starts (n : BitVec 32) (i : IVec S32 32) : IVec S32x1 32 := broadcastInDim S32x1 ![0] bcast_S32_S32x1_0 (wrapped n i)

/-- Which of them lie between zero and `top`. -/
abbrev inside (n top : BitVec 32) (i : IVec S32 32) : IVec S32 1 :=
  Host.reduce IntOp.andi (andi (cmpi .sge (starts n i) (broadcastInDim S32x1 ![] bcast_S_S32x1 (constantI S_ 32 0#32)))
    (cmpi .sle (starts n i) (broadcastInDim S32x1 ![0, 1] bcast_S1x1_S32x1_0_1 (broadcastInDim S1x1 ![1] bcast_S1_S1x1_1 (constantI S1 32 top)))))
    (constantI S_ 1 1#1) reducesTo_S32x1_S32_d1 h_S_

/-- The look-up in the table of times. -/
def takeTimes (x : S64.Idx → BitVec 32) (i : IVec S32 32) : S32.Idx → BitVec 32 :=
  select (inside 64#32 63#32 i) (Host.gather gather_S64_S32x1_S32_n_0_n_n_0_1_1 x (starts 64#32 i))
    (broadcastInDim S32 ![] bcast_S_S32 (constantI S_ 32 2147483648#32))

/-- The look-up in a table of the schedule, `fill` outside it. -/
def takeSchedule (fill : S_.Idx → α) (x : S1001.Idx → α) (i : IVec S32 32) : S32.Idx → α :=
  select (inside 1001#32 1000#32 i) (Host.gather gather_S1001_S32x1_S32_n_0_n_n_0_1_1 x (starts 1001#32 i))
    (broadcastInDim S32 ![] bcast_S_S32 fill)

/-! ## What they are at indices inside the table -/

section InRange

variable {i : IVec S32 32} {N : Nat} (hN : N ≤ 2 ^ 31) (hi : ∀ k, (i k).toNat < N)
include hN hi

/-- Indices inside the table are left as they are. -/
theorem wrapped_eq (n : BitVec 32) : wrapped n i = i := funext fun k => by
  show Scalar.select (IntOp.cmpi .slt (i k) 0#32) _ _ = _
  rw [not_neg hN (hi k)]
  exact select_zero _ _

/-- The column's row `y` is the index `y`. -/
theorem starts_eq (n : BitVec 32) (y : S32x1.Idx) : starts n i y = i (ix1 (y 0)) := by
  unfold starts
  rw [wrapped_eq hN hi]
  refine congrArg i (funext fun a => ?_)
  obtain rfl : a = 0 := Subsingleton.elim (α := Fin 1) _ _
  rfl

/-- Every one of them lies inside. -/
theorem inside_eq (n top : BitVec 32) (ht : top.toNat + 1 = N) (k : S32.Idx) : inside n top i k = 1#1 := by
  refine Host.reduce_andi_one _ _ _ _ k rfl fun y => ?_
  show IntOp.andi (IntOp.cmpi .sge (starts n i y) 0#32) (IntOp.cmpi .sle (starts n i y) top) = 1#1
  rw [starts_eq hN hi, at_least hN (hi _), at_most hN ht (hi _)]
  rfl

end InRange

/-! ## The table read at a start -/

/-- The column's row that position `k` of the result reads. -/
abbrev rowOf (k : S32.Idx) : S32x1.Idx := fun a => match a with | ⟨0, _⟩ => ⟨(k 0).val, (k 0).isLt⟩ | ⟨1, _⟩ => ⟨0, Nat.one_pos⟩

/-- The times' table read at a start inside it. -/
theorem gather_times (x : S64.Idx → BitVec 32) (st : IVec S32x1 32) (k : S32.Idx) (p : S64.Idx) (hp : (st (rowOf k)).toInt = ((p 0).val : Int)) :
    Host.gather gather_S64_S32x1_S32_n_0_n_n_0_1_1 x st k = x p := by
  refine congrArg x (funext fun a => ?_)
  obtain rfl : a = 0 := Subsingleton.elim (α := Fin 1) _ _
  refine Fin.ext ?_
  show gather_S64_S32x1_S32_n_0_n_n_0_1_1.start k st 0 + gather_S64_S32x1_S32_n_0_n_n_0_1_1.batchCoord k 0
    + gather_S64_S32x1_S32_n_0_n_n_0_1_1.offCoord k 0 = (p 0).val
  have hs : gather_S64_S32x1_S32_n_0_n_n_0_1_1.start k st 0 = min (st (rowOf k)).toInt.toNat 63 := by
    unfold GatherDims.start
    rw [dif_pos (by decide)]
    refine congrArg (fun z => min (st z).toInt.toNat 63) (funext fun b => Fin.ext ?_)
    match b with
    | ⟨0, _⟩ => rfl
    | ⟨1, _⟩ => rfl
  have hlt : (p 0).val < 64 := (p 0).isLt
  rw [hs, GatherDims.batchCoord_eq_zero _ _ _ List.not_mem_nil, hp,
    GatherDims.offCoord_eq_zero _ _ _ (fun h => ((GatherDims.mem_sKept _ _).mp h).1 (List.mem_singleton.mpr rfl))]
  omega

/-- A schedule's table read at a start inside it. -/
theorem gather_schedule (x : S1001.Idx → α) (st : IVec S32x1 32) (k : S32.Idx) (p : S1001.Idx) (hp : (st (rowOf k)).toInt = ((p 0).val : Int)) :
    Host.gather gather_S1001_S32x1_S32_n_0_n_n_0_1_1 x st k = x p := by
  refine congrArg x (funext fun a => ?_)
  obtain rfl : a = 0 := Subsingleton.elim (α := Fin 1) _ _
  refine Fin.ext ?_
  show gather_S1001_S32x1_S32_n_0_n_n_0_1_1.start k st 0 + gather_S1001_S32x1_S32_n_0_n_n_0_1_1.batchCoord k 0
    + gather_S1001_S32x1_S32_n_0_n_n_0_1_1.offCoord k 0 = (p 0).val
  have hs : gather_S1001_S32x1_S32_n_0_n_n_0_1_1.start k st 0 = min (st (rowOf k)).toInt.toNat 1000 := by
    unfold GatherDims.start
    rw [dif_pos (by decide)]
    refine congrArg (fun z => min (st z).toInt.toNat 1000) (funext fun b => Fin.ext ?_)
    match b with
    | ⟨0, _⟩ => rfl
    | ⟨1, _⟩ => rfl
  have hlt : (p 0).val < 1001 := (p 0).isLt
  rw [hs, GatherDims.batchCoord_eq_zero _ _ _ List.not_mem_nil, hp,
    GatherDims.offCoord_eq_zero _ _ _ (fun h => ((GatherDims.mem_sKept _ _).mp h).1 (List.mem_singleton.mpr rfl))]
  omega

/-- A word below half the range reads as the same number with its sign. -/
theorem toInt_of_lt {v : BitVec 32} {N : Nat} (hN : N ≤ 2 ^ 31) (h : v.toNat < N) : v.toInt = (v.toNat : Int) := by
  simp only [BitVec.toInt]; omega

/-- The look-up of times at indices inside the table. -/
theorem takeTimes_eq (x : S64.Idx → BitVec 32) (i : IVec S32 32) (hi : ∀ k, (i k).toNat < 64) (k : S32.Idx) (p : S64.Idx)
    (hp : (p 0).val = (i k).toNat) : takeTimes x i k = x p := by
  have hk : (ix1 (rowOf k 0) : S32.Idx) = k := funext fun a => by
    obtain rfl : a = 0 := Subsingleton.elim (α := Fin 1) _ _
    rfl
  show Scalar.select (inside 64#32 63#32 i k) _ _ = _
  rw [inside_eq (by decide) hi _ _ (by decide)]
  refine (select_one _ _).trans (gather_times x _ k p ?_)
  rw [starts_eq (by decide) hi, hk, toInt_of_lt (by decide) (hi k), hp]

/-- The look-up in a schedule's table at times inside it. -/
theorem takeSchedule_eq (fill : S_.Idx → α) (x : S1001.Idx → α) (i : IVec S32 32) (hi : ∀ k, (i k).toNat < 1001) (k : S32.Idx) (p : S1001.Idx)
    (hp : (p 0).val = (i k).toNat) : takeSchedule fill x i k = x p := by
  have hk : (ix1 (rowOf k 0) : S32.Idx) = k := funext fun a => by
    obtain rfl : a = 0 := Subsingleton.elim (α := Fin 1) _ _
    rfl
  show Scalar.select (inside 1001#32 1000#32 i k) _ _ = _
  rw [inside_eq (by decide) hi _ _ (by decide)]
  refine (select_one _ _).trans (gather_schedule x _ k p ?_)
  rw [starts_eq (by decide) hi, hk, toInt_of_lt (by decide) (hi k), hp]

end Cert.Proof
-- ==== Proof.Steps.lean ====
/-
  The scalar subcore's kernel as a loop: the printed body is two copies in, thirty-two look-up steps, one copy out. One
  step is stated once, for any position.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Steps

open Cert.KernelIdeal Cert.KernelIdeal.Gen

open Idealize.ShloMosaic Idealize.SL.Sem

variable {F : FTy → Type} [FloatOps F]

/-- Position `j` lies inside the thirty-two words. -/
theorem inb (j : Fin 32) : ∀ a, (![j.val] : Fin 1 → Nat) a + S1.size a ≤ S32.size a := by
  have := j.isLt; intro a; fin_cases a; simp <;> omega

variable (i : grid0.Coords)
  (arg1 : Memref sig .scScalar .hbm S64 .i32) (harg1 : arg1.IsWhole) (arg2 : Memref sig .scScalar .hbm S32 .i32) (harg2 : arg2.IsWhole)
  (arg3 : Memref sig .scScalar .hbm S32 .i32) (harg3 : arg3.IsWhole) (arg4 : Memref sig .scScalar .smem S64 .i32) (harg4 : arg4.IsWhole)
  (arg5 : Memref sig .scScalar .smem S32 .i32) (harg5 : arg5.IsWhole) (arg6 : Memref sig .scScalar .smem S32 .i32) (harg6 : arg6.IsWhole)
  (s0 s1 s2 : DmaSems sig S_) (h : k0_cond1 i = 1#1)

/-- One step: read index `j`, check that it lies inside the table, read the table there, put the word at position `j`
    (whose old word the program reads first, and drops). -/
def step (j : Fin 32) : Prog (TpuEff nD τ sig (Elt F) Λ₀ (.scScalar ((i 0).castLE hcore0))) PUnit := do
  let v : Elt F .i32 ← smemLoad arg5 (Rect.unit (s := S32) ![j.val] S1.size (inb j)) numel1_S1 rfl
  have hw : k0_chk1 i v := (← Prog.lift (TpuEff.assume (k0_chk1 i v) (k0_chk1.dec i v))).down
  let w : Elt F .i32 ← smemLoad arg4 (Rect.unit (s := S64) (k0_off1 v) S1.size (k0_off1_inb i v hw h)) numel1_S1 rfl
  let _ : Elt F .i32 ← smemLoad arg6 (Rect.unit (s := S32) ![j.val] S1.size (inb j)) numel1_S1 rfl
  Prog.lift (.store arg6 (Rect.unit (s := S32) ![j.val] S1.size (inb j)) (fun _ => w) Finset.univ (View.stores_smem_one rfl numel1_S1) (.inl rfl))

/-- `n` steps from position `j` on. -/
def steps : (n j : Nat) → n + j = 32 → Prog (TpuEff nD τ sig (Elt F) Λ₀ (.scScalar ((i 0).castLE hcore0))) PUnit
  | 0, _, _ => pure ⟨⟩
  | n + 1, j, hj => do step i arg4 arg5 arg6 h ⟨j, by omega⟩; steps n (j + 1) (by omega)

/-- The copy in of the table and of the indices, the steps, the copy out of the result. -/
def body : Prog (TpuEff nD τ sig (Elt F) Λ₀ (.scScalar ((i 0).castLE hcore0))) PUnit := do
  Prog.lift (.enqueueDma arg1 (.here arg4) (.dma s0.sem) harg1.wordExact harg4.wordExact ⟨Or.inl rfl, trivial⟩)
  Prog.lift (.waitDma2 s0.sem arg1 arg4 harg1.wordExact harg4.wordExact)
  Prog.lift (.enqueueDma arg2 (.here arg5) (.dma s1.sem) harg2.wordExact harg5.wordExact ⟨Or.inl rfl, trivial⟩)
  Prog.lift (.waitDma2 s1.sem arg2 arg5 harg2.wordExact harg5.wordExact)
  steps i arg4 arg5 arg6 h 32 0 rfl
  Prog.lift (.enqueueDma arg6 (.here arg3) (.dma s2.sem) harg6.wordExact harg3.wordExact ⟨Or.inl rfl, trivial⟩)
  Prog.lift (.waitDma2 s2.sem arg6 arg3 harg6.wordExact harg3.wordExact)

set_option maxRecDepth 65536 in
set_option maxHeartbeats 4000000 in
/-- The printed kernel runs `body` where its condition holds. -/
theorem kernel_eq : cc0__t_gather_kernel (F := F) i arg1 harg1 arg2 harg2 arg3 harg3 arg4 harg4 arg5 harg5 arg6 harg6 s0 s1 s2
    = body i arg1 harg1 arg2 harg2 arg3 harg3 arg4 harg4 arg5 harg5 arg6 harg6 s0 s1 s2 h := by
  have e : cc0__t_gather_kernel (F := F) i arg1 harg1 arg2 harg2 arg3 harg3 arg4 harg4 arg5 harg5 arg6 harg6 s0 s1 s2
    = if k0_h1 : k0_cond1 i = 1#1 then body i arg1 harg1 arg2 harg2 arg3 harg3 arg4 harg4 arg5 harg5 arg6 harg6 s0 s1 s2 k0_h1
      else pure ⟨⟩ := by
    rw [cc0__t_gather_kernel_eq_skeleton]; unfold cc0__t_gather_kernel_skel
    by_cases h' : k0_cond1 i = 1#1
    · rw [dif_pos h', dif_pos h']; rfl
    · rw [dif_neg h', dif_neg h']
  rw [e, dif_pos h]

end Cert.Proof.Steps
-- ==== Proof.Setup.lean ====
/-
  What every part of the proof shares: the program as the launch theorem sees it, the resources, and the words the first
  call computes.
-/
module

public import Idealize.ShloMosaic.Lib.Pipeline.Value
public import proofs.«01_k».proof.Proof.Steps
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the kernels and of the pipelined call. -/
abbrev ΛP : Labels := Pipeline.Sig Λ₀ (Fin 1) fun p => (pcfgs (F := F) p).Adm
/-- The SparseCore call. -/
abbrev K : SparseCore.Cfg τ sig (ΛP (F := F)) 1 := sc (F := F)
/-- The body table under the SparseCore call. -/
abbrev D [FloatOps F] : Defs nD τ sig (Elt F) (ΛP (F := F)) := Pipeline.defs pcfgs defs₀
/-- No loop here needs a variant. -/
abbrev 𝒱₀ : Variants := Variants.none
/-- The same for the pipelined call. -/
abbrev 𝒱 : Variants := 𝒱₀.lift
/-- The variant of a thread's start. -/
abbrev v₀ : 𝒱.V := Sum.inl none

/-- The launch's own semaphores are five distinct ones, none of them a kernel's scoped one. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the launch's rounds, the pipelined call's rounds, the copies' counters -/

/-- The launch's rounds. -/
abbrev UH : Type := URounds (GSem nD τ sig) ℕ
/-- The pipelined call's rounds. -/
abbrev UP : Type := URounds (GSem nD τ sig) Unit
/-- Both, and the copies' counters. -/
abbrev UU : Type := UH × (UP × Counters)

local notation "𝕄" => MT nD τ sig (HIx 1) (Elt F) ℕ UU ℕ

/-- The launch's rounds, the left part. -/
abbrev EH : Emb UH (MT nD τ sig (HIx 1) (Elt F) ℕ UU ℕ) := embL
/-- The pipelined call's rounds, the middle part. -/
def EP : Emb UP (MT nD τ sig (HIx 1) (Elt F) ℕ UU ℕ) := (Emb.inl : Emb UP (UP × Counters)).trans embR

/-- It lies in the part of the state that a program's proofs may keep in invariants. -/
instance EP_landsIn : (EP (F := F)).LandsIn (upEmb : UEmb _ 𝕄) := by
  unfold EP embR; infer_instance

/-! ## The words of the first call -/

/-- The table's place that the word `v` names. -/
def place (v : BitVec 32) : S64.Idx := fun a => ⟨v.toNat % S64.size a, Nat.mod_lt _ (by fin_cases a; decide)⟩
/-- The look-up: position `k` of the result is the table at the word of index `k`. -/
def lookup (tab : S64.Idx → BitVec 32) (idx : S32.Idx → BitVec 32) : S32.Idx → BitVec 32 := fun k => tab (place (idx k))
/-- The look-up done at the first `j` positions, `f` at the others. -/
def upTo (tab : S64.Idx → BitVec 32) (idx f : S32.Idx → BitVec 32) (j : Nat) : S32.Idx → BitVec 32 :=
  fun k => if (k 0).val < j then lookup tab idx k else f k

end Cert.Proof
-- ==== Proof.Gather.lean ====
/-
  The first call on SparseCore 0's scalar subcore: its body from the table and the indices held whole to the same with
  the result holding the look-up.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- An array held at `f` is held at what `f` equals. -/
theorem pts_eq {ℓ : Loc nD τ sig} {f g : Buf (Elt F) ℓ} (e : f = g) : (ℓ ↦{fullShare} f : sProp 𝕄) ⊢ ℓ ↦{fullShare} g :=
  Entails.of_eq (by rw [e])

/-! ## The words that a step reads and writes -/

/-- Position `j` as an index of the thirty-two words. -/
def pos (j : Fin 32) : S32.Idx := fun a => ⟨j.val % S32.size a, Nat.mod_lt _ (by fin_cases a; decide)⟩

/-- The check on an index: below 64 it lies inside the table. -/
theorem chk_of_lt (i : grid0.Coords) (v : BitVec 32) (hv : v.toNat < 64) : k0_chk1 i v := by
  intro _ a
  fin_cases a
  show (Scalar.indexCast v).toNat + 1 ≤ 64
  unfold Scalar.indexCast
  omega

/-- Reading one word of the indices at position `j`. -/
theorem read_idx (idx : S32.Idx → BitVec 32) (j : Fin 32) (x : S1.Idx) :
    (Memref.whole cc0_scratch1).view.readAt (Elt F) (Rect.unit (s := S32) ![j.val] S1.size (Steps.inb j)).toLoadRect idx x = idx (pos j) := by
  rw [View.readAt_apply]
  refine congrArg idx (funext fun a => Fin.ext ?_)
  obtain rfl : a = 0 := Subsingleton.elim (α := Fin 1) _ _
  show j.val + 1 * (x 0).val = j.val % 32
  have := j.isLt; have : (x 0).val < 1 := (x 0).isLt; omega

/-- Reading one word of the table where a checked index points. -/
theorem read_tab (tab : S64.Idx → BitVec 32) (v : BitVec 32) (hv : v.toNat < 64) (hin : ∀ a, k0_off1 v a + S1.size a ≤ S64.size a) (x : S1.Idx) :
    (Memref.whole cc0_scratch0).view.readAt (Elt F) (Rect.unit (s := S64) (k0_off1 v) S1.size hin).toLoadRect tab x = tab (place v) := by
  rw [View.readAt_apply]
  refine congrArg tab (funext fun a => Fin.ext ?_)
  obtain rfl : a = 0 := Subsingleton.elim (α := Fin 1) _ _
  show v.toNat + 1 * (x 0).val = v.toNat % 64
  have : (x 0).val < 1 := (x 0).isLt; omega

/-- Writing the looked-up word at position `j` moves the look-up on by one position. -/
theorem write_word (tab : S64.Idx → BitVec 32) (idx f : S32.Idx → BitVec 32) (j : Fin 32) (w : BitVec 32)
    (hw : w = lookup tab idx (pos j)) :
    (Memref.whole cc0_scratch2).view.writes (Elt F) (upTo tab idx f j.val) [⟨Rect.unit (s := S32) ![j.val] S1.size (Steps.inb j), fun _ => w⟩]
      = upTo tab idx f (j.val + 1) := by
  refine (View.write_whole_slice_unit cc0_scratch2 ![j.val] S1.size (Steps.inb j) (Val := Elt F) _ _).trans ?_
  funext k
  unfold updateSlice upTo
  have hj := j.isLt
  have hk : (k 0).val < 32 := (k 0).isLt
  have e : ∀ a : Fin 1, a = 0 := fun a => Subsingleton.elim _ _
  split
  · next hin =>
    have h0 : j.val ≤ (k 0).val ∧ (k 0).val < j.val + 1 := hin 0
    have : k = pos j := by funext a; apply Fin.ext; obtain rfl := e a; show (k 0).val = j.val % 32; omega
    rw [if_pos (by omega), hw]
    show lookup tab idx (pos j) = lookup tab idx k
    rw [this]
  · next hin =>
    have h0 : (k 0).val ≠ j.val := fun h0 => hin fun a => by
      obtain rfl := e a
      exact ⟨h0.symm.le, by show (k 0).val < j.val + 1; omega⟩
    show (if (k 0).val < j.val then lookup tab idx k else f k) = _
    by_cases hlt : (k 0).val < j.val
    · rw [if_pos hlt, if_pos (by omega)]
    · rw [if_neg hlt, if_neg (by omega)]

/-! ## One step, and all of them -/

section Run

variable (d : Dev nD) (c : Fin τ.nSC)

local notation "tabM" => (Memref.whole Cert.KernelIdeal.cc0_scratch0 : Memref Cert.KernelIdeal.sig Kind.scScalar Space.smem Cert.KernelIdeal.S64 EltTy.i32)
local notation "idxM" => (Memref.whole Cert.KernelIdeal.cc0_scratch1 : Memref Cert.KernelIdeal.sig Kind.scScalar Space.smem Cert.KernelIdeal.S32 EltTy.i32)
local notation "outM" => (Memref.whole Cert.KernelIdeal.cc0_scratch2 : Memref Cert.KernelIdeal.sig Kind.scScalar Space.smem Cert.KernelIdeal.S32 EltTy.i32)

local notation "tabA" => (Memref.whole Cert.KernelIdeal.main_arg3_scs : Memref Cert.KernelIdeal.sig Kind.scScalar Space.hbm Cert.KernelIdeal.S64 EltTy.i32)
local notation "idxA" => (Memref.whole Cert.KernelIdeal.main_arg4_scs : Memref Cert.KernelIdeal.sig Kind.scScalar Space.hbm Cert.KernelIdeal.S32 EltTy.i32)
local notation "outA" => (Memref.whole Cert.KernelIdeal.main_v0_scs : Memref Cert.KernelIdeal.sig Kind.scScalar Space.hbm Cert.KernelIdeal.S32 EltTy.i32)

/-- The subcore's three scratch arrays: the table, the indices, and the result at `g`. -/
abbrev scratch (tab : S64.Idx → BitVec 32) (idx g : S32.Idx → BitVec 32) : sProp 𝕄 :=
  iprop(((tabM).view.loc (S d c) ↦{fullShare} (tab : Buf (Elt F) ((S d c).loc cc0_scratch0)))
    ∗ ((idxM).view.loc (S d c) ↦{fullShare} (idx : Buf (Elt F) ((S d c).loc cc0_scratch1)))
    ∗ ((outM).view.loc (S d c) ↦{fullShare} (g : Buf (Elt F) ((S d c).loc cc0_scratch2))))

variable (i : grid0.Coords) (h : k0_cond1 i = 1#1) (tab : S64.Idx → BitVec 32) (idx f : S32.Idx → BitVec 32)
  (hidx : ∀ k, (idx k).toNat < 64)

include hidx in
/-- One look-up step takes the words filled so far from `j` to `j + 1`. -/
theorem step_run (j : Fin 32) :
    (scratch (F := F) d ((i 0).castLE hcore0) tab idx (upTo tab idx f j.val) : sProp 𝕄)
      ⊢ wp frame (wpE (defs₀ (F := F)) 𝒱₀ (S d ((i 0).castLE hcore0)) none) Set.univ
          (Steps.step i tabM idxM outM h j) fun _ => scratch (F := F) d ((i 0).castLE hcore0) tab idx (upTo tab idx f (j.val + 1)) := by
  unfold Steps.step scratch
  iintro ⟨Ht, Hi, Ho⟩
  sl_exec
  have e : step_run.sl.r (F := F) idx j = idx (pos j) := by
    unfold step_run.sl.r; exact read_idx idx j _
  have hchk : k0_chk1 i (step_run.sl.r (F := F) idx j) := by rw [e]; exact chk_of_lt i _ (hidx _)
  iapply (wp_assume 𝒱₀ (S d ((i 0).castLE hcore0)) none Set.univ hchk)
  sl_exec
  have ew : step_run.sl.r_1 (F := F) i h tab idx j hchk = lookup tab idx (pos j) := by
    unfold step_run.sl.r_1
    refine (read_tab tab _ (by rw [e]; exact hidx _) _ _).trans ?_
    rw [e]; rfl
  sl_step
  isplitl [Ht]; · iexact Ht
  isplitl [Hi]; · iexact Hi
  iapply (pts_eq (write_word (F := F) tab idx f j _ ew))
  iexact Ho

include hidx in
/-- The steps from position `j` on complete the look-up. -/
theorem steps_run (n j : Nat) (hj : n + j = 32) :
    (scratch (F := F) d ((i 0).castLE hcore0) tab idx (upTo tab idx f j) : sProp 𝕄)
      ⊢ wp frame (wpE (defs₀ (F := F)) 𝒱₀ (S d ((i 0).castLE hcore0)) none) Set.univ
          (Steps.steps i tabM idxM outM h n j hj) fun _ => scratch (F := F) d ((i 0).castLE hcore0) tab idx (lookup tab idx) := by
  induction n generalizing j with
  | zero =>
    obtain rfl : j = 32 := by omega
    unfold Steps.steps
    rw [wp_pure, show upTo tab idx f 32 = lookup tab idx from funext fun k => if_pos (k 0).isLt]
    exact BI.fupd_intro
  | succ n ih =>
    unfold Steps.steps
    rw [wp_bind]
    exact (step_run d i h tab idx f hidx ⟨j, by omega⟩).trans (wp_mono _ _ _ fun _ => ih (j + 1) (by omega))

/-- The subcore's arrays in HBM as its program addresses them: the table, the indices, and the result at `g`. -/
abbrev arrays (tab : S64.Idx → BitVec 32) (idx g : S32.Idx → BitVec 32) : sProp 𝕄 :=
  iprop(((tabA).view.loc (S d c) ↦{fullShare} (tab : Buf (Elt F) ((S d c).loc main_arg3_scs)))
    ∗ ((idxA).view.loc (S d c) ↦{fullShare} (idx : Buf (Elt F) ((S d c).loc main_arg4_scs)))
    ∗ ((outA).view.loc (S d c) ↦{fullShare} (g : Buf (Elt F) ((S d c).loc main_v0_scs))))

/-- The three copies' semaphores at zero. -/
abbrev cells0 : sProp 𝕄 :=
  iprop(semVal (S d c, SemLoc.dma cc0_scoped0.sem) 0 ∗ semVal (S d c, SemLoc.dma cc0_scoped1.sem) 0 ∗ semVal (S d c, SemLoc.dma cc0_scoped2.sem) 0)

include hidx h in
/-- The whole body: the table and the indices copied in, the steps, the result copied out. -/
theorem body_run (O : CellTallies nD τ sig (HIx 1)) (W : Waits sig (HIx 1)) (t0 : S64.Idx → BitVec 32) (x0 g : S32.Idx → BitVec 32) :
    (iprop(Transfers.MayWaits (S d ((i 0).castLE hcore0)) (none : HIx 1) O
        ∗ arrays (F := F) d ((i 0).castLE hcore0) tab idx g ∗ scratch (F := F) d ((i 0).castLE hcore0) t0 x0 f
        ∗ cells0 (F := F) d ((i 0).castLE hcore0) ∗ owes (S d ((i 0).castLE hcore0)) O W) : sProp 𝕄)
      ⊢ wp frame (wpE (defs₀ (F := F)) 𝒱₀ (S d ((i 0).castLE hcore0)) none) Set.univ
          (cc0__t_gather_kernel i tabA (Memref.isWhole_whole _) idxA (Memref.isWhole_whole _) outA (Memref.isWhole_whole _)
            tabM (Memref.isWhole_whole _) idxM (Memref.isWhole_whole _) outM (Memref.isWhole_whole _) cc0_scoped0 cc0_scoped1 cc0_scoped2)
          fun _ => iprop(arrays (F := F) d ((i 0).castLE hcore0) tab idx (lookup tab idx)
            ∗ scratch (F := F) d ((i 0).castLE hcore0) tab idx (lookup tab idx)
            ∗ cells0 (F := F) d ((i 0).castLE hcore0) ∗ ∃ W', owes (S d ((i 0).castLE hcore0)) O W') := by
  rw [Steps.kernel_eq _ _ _ _ _ _ _ _ _ _ _ _ _ _ _ _ h]
  unfold Steps.body
  have hrun := steps_run (F := F) d i h tab idx f hidx 32 0 rfl
  generalize Steps.steps (F := F) i tabM idxM outM h 32 0 rfl = st at hrun ⊢
  unfold arrays scratch cells0
  iintro ⟨#Hmw, ⟨Ht, Hi, Ho⟩, ⟨Hts, His, Hos⟩, ⟨Hc0, Hc1, Hc2⟩, HO⟩
  sl_exec
  have e0 : View.write (Elt F) (tabM).view t0 (body_run.sl.dma0 (F := F) tab) Finset.univ = tab :=
    (View.write_whole_univ (Val := Elt F) cc0_scratch0 t0 _).trans rfl
  have e1 : View.write (Elt F) (idxM).view x0 (body_run.sl.dma0_1 (F := F) idx) Finset.univ = idx :=
    (View.write_whole_univ (Val := Elt F) cc0_scratch1 x0 _).trans rfl
  irw [wp_bind]
  iapply (wp_wand_r Idealize.ShloMosaic.frame (wpE (defs₀ (F := F)) 𝒱₀ (S d ((i 0).castLE hcore0)) none) Set.univ)
  isplitl [Hts His Hos]
  · iapply hrun
    isplitl [Hts]; · iapply (pts_eq e0); iexact Hts
    isplitl [His]; · iapply (pts_eq e1); iexact His
    iexact Hos
  iintro %_ ⟨Hts, His, Hos⟩
  sl_exec
  have e2 : View.write (Elt F) (outA).view g (body_run.sl.dma0_2 (F := F) tab idx) Finset.univ = lookup tab idx :=
    (View.write_whole_univ (Val := Elt F) main_v0_scs g _).trans rfl
  sl_step
  isplitl [Ht Hi Ho]
  · isplitl [Ht]; · iexact Ht
    isplitl [Hi]; · iexact Hi
    iapply (pts_eq e2); iexact Ho
  isplitl [Hts His Hos]; · sl_close
  isplitl [Hc0 Hc1 Hc2]; · sl_close
  iexists _; iexact HO

end Run

end Cert.Proof
-- ==== Proof.Scalar.lean ====
/-
  The first call's obligation to the launch: from the arrays the call is handed and the subcore's own scratch and
  semaphores, the body ends with the look-up in the result.
-/
module

public import proofs.«01_k».proof.Proof.Gather

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The launch memory, and what the call is handed and hands back -/

variable (m : (ℓ : Loc nD τ sig) → Buf (Elt F) ℓ)

/-- An array of device `d`. -/
abbrev loc (d : Dev nD) (b : Ref sig .tc) : Loc nD τ sig := (SparseCore.T d).loc b

/-- The table as the launch finds it. -/
def tabOf (d : Dev nD) : S64.Idx → BitVec 32 := m (loc d main_arg3)
/-- The indices as the launch finds them. -/
def idxOf (d : Dev nD) : S32.Idx → BitVec 32 := m (loc d main_arg4)
/-- The look-up of the indices in the table. -/
def tOf (d : Dev nD) : S32.Idx → BitVec 32 := lookup (tabOf m d) (idxOf m d)

/-- The table and the indices whole, and the first call's result at `g`. -/
abbrev callPts (d : Dev nD) (g : S32.Idx → BitVec 32) : sProp 𝕄 :=
  iprop((loc d main_arg3 ↦{fullShare} m (loc d main_arg3)) ∗ (loc d main_arg4 ↦{fullShare} m (loc d main_arg4))
    ∗ loc d main_v0 ↦{fullShare} (g : Buf (Elt F) (loc d main_v0)))

/-- The call takes the three arrays, its result at anything, and gives them back with the look-up in the result. -/
def P : (K (F := F)).Pay (nD := nD) (Val := Elt F) (Name := ℕ) (U := UU) where
  st := fun _ d _ => iprop(∃ g, callPts m d g)
  dn := fun _ d _ => callPts m d (tOf m d)
  go := fun _ _ _ _ => iprop(emp)
  td := fun _ _ _ _ => iprop(emp)
  x := fun _ _ => iprop(emp)

/-- What the call takes and gives back can be kept between threads. -/
instance P_storable : (P (F := F) m).IsStorable where
  st _ d c := by unfold P; infer_instance
  dn _ d c := by unfold P; infer_instance
  go _ _ _ _ := by unfold P; infer_instance
  td _ _ _ _ := by unfold P; infer_instance

/-! ## The subcore's own scratch and semaphores -/

section Own

variable (d : Dev nD) (c : Fin τ.nSC)

/-- The three scratch arrays. -/
abbrev scr : Fin 3 → Ref sig .scScalar := ![cc0_scratch0, cc0_scratch1, cc0_scratch2]
/-- The three copies' semaphores. -/
abbrev cell (k : Fin 3) : GSem nD τ sig := (S d c, .dma (⟨k.val, by omega⟩ : Fin 13))

/-- The subcore's other buffers. -/
abbrev restBufs : sProp 𝕄 :=
  bigSep ((ownRefs (τ := τ) (.scScalar c)) \ Finset.univ.image fun k => (Proc.scScalar c).devRef (scr k)) fun b => iprop(∃ f, ((d, b) : Loc nD τ sig) ↦{fullShare} f)
/-- The subcore's other semaphores. -/
abbrev restCells : sProp 𝕄 := bigSep ((ownCells (S d c)) \ Finset.univ.image (cell d c)) fun g => semVal g 0

/-- The subcore's buffers are its three scratch arrays, at some contents, and the rest. -/
theorem ownBufs_eq : (ownBufs (S d c) : sProp 𝕄)
    = iprop((bigSep Finset.univ fun k => iprop(∃ f, (S d c).loc (scr k) ↦{fullShare} f)) ∗ restBufs d c) := by
  unfold SparseCore.Cfg.ownBufs
  have hinj : Function.Injective scr := by decide
  rw [SparseCore.bigSep_sdiff_split' (t := Finset.univ.image fun k => (Proc.scScalar c).devRef (scr k))
      (Finset.image_subset_iff.mpr fun k _ => mem_ownRefs.mpr (by fin_cases k <;> rfl)),
    SparseCore.bigSep_image_of_injOn (fun a _ b _ h => hinj ((Proc.scScalar c).devRef_injective h))]

/-- The subcore's semaphores are its three copies' cells at zero, and the rest. -/
theorem ownSems0_eq : (ownSems0 (S d c) : sProp 𝕄) = iprop((bigSep Finset.univ fun k => semVal (cell d c k) 0) ∗ restCells d c) := by
  unfold SparseCore.Cfg.ownSems0
  rw [SparseCore.bigSep_sdiff_split' (t := Finset.univ.image (cell d c))
      (Finset.image_subset_iff.mpr fun k _ => mem_ownCells.mpr ⟨rfl, (show ∀ s : DmaSem sig, (SemLoc.dma s : SemLoc sig).isScoped .scScalar = true by decide) _⟩),
    SparseCore.bigSep_image_of_injOn (fun a _ b _ h => by
      have := congrArg (fun g : GSem nD τ sig => g.2) h
      simp only [SemLoc.dma.injEq, Fin.mk.injEq] at this; exact Fin.ext this)]

/-- Three things side by side, one by one. -/
theorem bigSep_three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

end Own

/-! ## The obligation -/

variable [FloatOps F]

/-- The grid's point of the scalar subcore's program on SparseCore `c`. -/
def coordsS (c : Fin (grid0.bound 0)) : grid0.Coords := fun | 0 => c | ⟨_ + 1, h⟩ => absurd h (Nat.not_lt.2 (Nat.le_add_left _ _))

/-- On SparseCore 0 the kernel's branch is taken. -/
theorem cond (h : 0 < grid0.bound 0) : k0_cond1 (coordsS ⟨0, h⟩) = 1#1 := rfl

/-- SparseCore 0's scalar subcore. -/
abbrev S0 (d : Dev nD) (h : 0 < grid0.bound 0) : Thread nD τ := S d ((⟨0, h⟩ : Fin (grid0.bound 0)).castLE hcore0)

/-- The kernel on SparseCore 0: handed the table, the indices and the result, it ends with the look-up in the result,
its scratch and its semaphores as they came. -/
theorem body₀ (hidx : ∀ d k, (idxOf m d k).toNat < 64) (d : Dev nD) (hF : (K (F := F)).Facts) (h : 0 < grid0.bound 0)
    (O : CellTallies nD τ sig (HIx 1)) (W : Waits sig (HIx 1)) (hO : ∀ g, O g none = 0) :
    iprop(levAts (K (F := F)).L (K (F := F)).lev ∗ emp ∗ (∃ g, callPts m d g)
        ∗ scopedBufs (S0 d h) ∗ scopedSems0 (S0 d h) ∗ owes (S0 d h) O W)
      ⊢ wp frame (wpE (defs₀ (F := F)) 𝒱₀ (S0 d h) none) Set.univ
          (cc0__t_gather_kernel (coordsS ⟨0, h⟩) (Memref.whole main_arg3_scs) (Memref.isWhole_whole _) (Memref.whole main_arg4_scs) (Memref.isWhole_whole _)
            (Memref.whole main_v0_scs) (Memref.isWhole_whole _) (Memref.whole cc0_scratch0) (Memref.isWhole_whole _) (Memref.whole cc0_scratch1) (Memref.isWhole_whole _)
            (Memref.whole cc0_scratch2) (Memref.isWhole_whole _) cc0_scoped0 cc0_scoped1 cc0_scoped2)
          fun _ => iprop(callPts m d (tOf m d) ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S hF d _, SparseCore.Cfg.scopedSems0_S (Val := Elt F) d _, ownSems0_eq, ownBufs_eq, bigSep_three, bigSep_three]
  iintro ⟨#Hlv, -, ⟨%g, HA⟩, ⟨⟨⟨⟨%t0, Hs0⟩, ⟨%x0, Hs1⟩, ⟨%f, Hs2⟩⟩, Hbufs⟩, Htiles⟩, ⟨⟨HC, Hsems⟩, HtileSems⟩, HO⟩
  ihave Hmw := ((K (F := F)).mayWaits_none (thr := S0 d h) hO) $$ Hlv
  iapply (wp_wand_r Idealize.ShloMosaic.frame (wpE (defs₀ (F := F)) 𝒱₀ (S0 d h) none) Set.univ)
  isplitl [HA Hs0 Hs1 Hs2 HC HO]
  · iapply (body_run (F := F) d (coordsS ⟨0, h⟩) (cond h) (tabOf m d) (idxOf m d) f (hidx d) O W t0 x0 g)
    isplitr; · iexact Hmw
    isplitl [HA]; · iexact HA
    isplitl [Hs0 Hs1 Hs2]
    · isplitl [Hs0]; · iexact Hs0
      isplitl [Hs1]; · iexact Hs1
      iexact Hs2
    isplitl [HC]; · iexact HC
    iexact HO
  iintro %_ ⟨HA, ⟨Hs0, Hs1, Hs2⟩, HC, %W', HO⟩
  isplitl [HA]; · iexact HA
  isplitl [Hs0 Hs1 Hs2 Hbufs Htiles]
  · isplitl [Hs0 Hs1 Hs2 Hbufs]
    · isplitl [Hs0 Hs1 Hs2]
      · isplitl [Hs0]; · iexists _; iexact Hs0
        isplitl [Hs1]; · iexists _; iexact Hs1
        iexists _; iexact Hs2
      iexact Hbufs
    iexact Htiles
  isplitl [HC Hsems HtileSems]
  · isplitl [HC Hsems]
    · isplitl [HC]; · iexact HC
      iexact Hsems
    iexact HtileSems
  iexists W'; isplitr
  · ipureintro; intro p _
    rcases p.2 with _ | q
    · exact .inr (.inl rfl)
    · exact .inr (.inr (congrArg some (Subsingleton.elim q 0)))
  · iexact HO

/-- The scalar subcore's entry of the body table is the kernel on the whole arrays. -/
theorem defs₀_scalar (c : Fin τ.nSC) :
    defs₀ (F := F) (.scScalar c) 0 ()
      = SparseCore.onCore hcore0 (fun c => cc0__t_gather_kernel (coordsS c) (Memref.whole main_arg3_scs) (Memref.isWhole_whole _) (Memref.whole main_arg4_scs) (Memref.isWhole_whole _)
            (Memref.whole main_v0_scs) (Memref.isWhole_whole _) (Memref.whole cc0_scratch0) (Memref.isWhole_whole _) (Memref.whole cc0_scratch1) (Memref.isWhole_whole _)
            (Memref.whole cc0_scratch2) (Memref.isWhole_whole _) cc0_scoped0 cc0_scoped1 cc0_scoped2) ⟨⟩ c := rfl

/-- What the launch asks of the first call's kernel. -/
theorem scalarObl (hidx : ∀ d k, (idxOf m d k).toNat < 64) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body₀ m hidx d facts h O W hO

end Cert.Proof
-- ==== Proof.Combine.lean ====
/-
  The second call's body: from the four look-up tables and the two blocks held, to the same with the result's block
  holding the noised rows.
-/
module

public import proofs.«01_k».proof.Proof.Gather

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What one element of the result is -/

/-- The place of the schedule tables that the word `t` names. -/
def level (t : BitVec 32) : S1001.Idx := fun a => ⟨t.toNat % S1001.size a, Nat.mod_lt _ (by fin_cases a; decide)⟩

/-- The noised element of a sample at time `t`: its coefficient times the element, plus the other coefficient scaled by
    the noise's deviation, times the noise. -/
def noised (at' bt : S1001.Idx → F .f32) (t : BitVec 32) (x n : F .f32) : F .f32 :=
  FloatOps.addf (FloatOps.mulf (at' (level t)) x) (FloatOps.mulf (Scalar.mulf (bt (level t)) (Scalar.ofBits .f32 0x3D4CCCCD#32)) n)

/-- The sample that row `r` of grid point `i`'s block is. -/
def sample (i : grid1.Coords) (r : Fin 2) : Fin 32 :=
  ⟨2 * (i 0).val + r.val, by have : (i 0).val < 16 := (i 0).isLt; have := r.isLt; omega⟩

/-- Grid point `i`'s block of the result. -/
def blockOut (tab : S64.Idx → BitVec 32) (idx : S32.Idx → BitVec 32) (at' bt : S1001.Idx → F .f32) (i : grid1.Coords)
    (x n : S2x3x512x512.Idx → F .f32) : S2x3x512x512.Idx → F .f32 :=
  fun y => noised at' bt (lookup tab idx (pos (sample i (y 0)))) (x y) (n y)

/-! ## The words and rows read -/

/-- What a load through a rectangle of unit strides reads, the place named by its coordinates. -/
theorem read_at {κ : Kind} {sp : Space} {s : Shape} {e : EltTy} (v : View sig κ sp s e) (off size : Fin s.rank → Nat)
    (hin : ∀ a, off a + size a ≤ s.size a) (f : v.ty.Contents (Elt F)) (x : (Rect.unit (s := s) off size hin).toLoadRect.shape.Idx)
    (k : s.Idx) (hk : ∀ a, (k a).val = off a + 1 * (x a).val) :
    v.readAt (Elt F) (Rect.unit (s := s) off size hin).toLoadRect f x = v.read (Elt F) f k := by
  rw [View.readAt_apply]
  exact congrArg (v.read (Elt F) f) (funext fun a => Fin.ext (hk a).symm)

/-- The one coordinate of a one-element axis is zero. -/
theorem one_zero (x : S1.Idx) (a : Fin 1) : (x a).val = 0 := by
  obtain rfl : a = 0 := Subsingleton.elim _ _
  have : (x 0).val < 1 := (x 0).isLt
  omega

/-- The first index's offset at a grid point. -/
theorem off_first (i : grid1.Coords) (a : Fin 1) : k1_off1 i a = 2 * (i 0).val := by
  have h : ∀ i : Fin 16, (Scalar.indexCast (Scalar.muli 2#32 (BitVec.ofNat 32 i.val))).toNat = 2 * i.val := by decide
  obtain rfl : a = 0 := Subsingleton.elim _ _
  exact h (i 0)

/-- The second index's offset at a grid point. -/
theorem off_second (i : grid1.Coords) (a : Fin 1) : k1_off3 i a = 2 * (i 0).val + 1 := by
  have h : ∀ i : Fin 16, (Scalar.indexCast (Scalar.addi (Scalar.muli 2#32 (BitVec.ofNat 32 i.val)) 1#32)).toNat = 2 * i.val + 1 := by decide
  obtain rfl : a = 0 := Subsingleton.elim _ _
  exact h (i 0)

/-- The payload of the first row's store, elementwise. -/
theorem pay_first (a b : F .f32) (x n : S1x3x512x512.Idx → F .f32) :
    k1_pay2 (F := F) a b x n = fun z => FloatOps.addf (FloatOps.mulf a (x z)) (FloatOps.mulf (Scalar.mulf b (Scalar.ofBits .f32 0x3D4CCCCD#32)) (n z)) := by
  have hx := shapeCast_shapeCast x shapeCasts_S1x3x512x512_S3x512x512 shapeCasts_S3x512x512_S1x3x512x512
  have hn := shapeCast_shapeCast n shapeCasts_S1x3x512x512_S3x512x512 shapeCasts_S3x512x512_S1x3x512x512
  funext z
  rw [← congrFun hx z, ← congrFun hn z]
  rfl

/-- The payload of the second row's store, elementwise. -/
theorem pay_second (a b : F .f32) (x n : S1x3x512x512.Idx → F .f32) :
    k1_pay1 (F := F) a b x n = fun z => FloatOps.addf (FloatOps.mulf a (x z)) (FloatOps.mulf b (n z)) := by
  have hx := shapeCast_shapeCast x shapeCasts_S1x3x512x512_S3x512x512 shapeCasts_S3x512x512_S1x3x512x512
  have hn := shapeCast_shapeCast n shapeCasts_S1x3x512x512_S3x512x512 shapeCasts_S3x512x512_S1x3x512x512
  funext z
  rw [← congrFun hx z, ← congrFun hn z]
  rfl

/-- Reading the first sample's index. -/
theorem read_first {κ : Kind} {sp : Space} (v : View sig κ sp S32 .i32) (i : grid1.Coords) (f : v.ty.Contents (Elt F)) (x : S1.Idx) :
    v.readAt (Elt F) (Rect.unit (s := S32) (k1_off1 i) S1.size (k1_off1_inb i)).toLoadRect f x = v.read (Elt F) f (pos (sample i 0)) :=
  read_at v _ _ _ f x _ fun a => by
    rw [off_first, one_zero x a]
    obtain rfl : a = 0 := Subsingleton.elim (α := Fin 1) _ _
    have : (i 0).val < 16 := (i 0).isLt
    show (2 * (i 0).val + 0) % 32 = _
    omega

/-- Reading the second sample's index. -/
theorem read_second {κ : Kind} {sp : Space} (v : View sig κ sp S32 .i32) (i : grid1.Coords) (f : v.ty.Contents (Elt F)) (x : S1.Idx) :
    v.readAt (Elt F) (Rect.unit (s := S32) (k1_off3 i) S1.size (k1_off3_inb i)).toLoadRect f x = v.read (Elt F) f (pos (sample i 1)) :=
  read_at v _ _ _ f x _ fun a => by
    rw [off_second, one_zero x a]
    obtain rfl : a = 0 := Subsingleton.elim (α := Fin 1) _ _
    have : (i 0).val < 16 := (i 0).isLt
    show (2 * (i 0).val + 1) % 32 = _
    omega

/-- Reading the time at a word below 64. -/
theorem read_time {κ : Kind} {sp : Space} (v : View sig κ sp S64 .i32) (w : BitVec 32) (hw : w.toNat < 64)
    (hin : ∀ a, k1_off2 w a + S1.size a ≤ S64.size a) (f : v.ty.Contents (Elt F)) (x : S1.Idx) :
    v.readAt (Elt F) (Rect.unit (s := S64) (k1_off2 w) S1.size hin).toLoadRect f x = v.read (Elt F) f (place w) :=
  read_at v _ _ _ f x _ fun a => by
    rw [one_zero x a]
    obtain rfl : a = 0 := Subsingleton.elim (α := Fin 1) _ _
    show w.toNat % 64 = w.toNat + 1 * 0
    omega

/-- Reading a schedule table at a time below 1001. -/
theorem read_level {κ : Kind} {sp : Space} (v : View sig κ sp S1001 .f32) (t : BitVec 32) (ht : t.toNat < 1001)
    (hin : ∀ a, k1_off5 t a + S1.size a ≤ S1001.size a) (f : v.ty.Contents (Elt F)) (x : S1.Idx) :
    v.readAt (Elt F) (Rect.unit (s := S1001) (k1_off5 t) S1.size hin).toLoadRect f x = v.read (Elt F) f (level t) :=
  read_at v _ _ _ f x _ fun a => by
    rw [one_zero x a]
    obtain rfl : a = 0 := Subsingleton.elim (α := Fin 1) _ _
    show t.toNat % 1001 = t.toNat + 1 * 0
    omega

/-- The check on an index: below 64 it lies inside the table of times. -/
theorem time_chk (w : BitVec 32) (hw : w.toNat < 64) : k1_chk1 w := by
  intro a
  obtain rfl : a = 0 := Subsingleton.elim (α := Fin 1) _ _
  show w.toNat + 1 ≤ 64
  omega

/-- The check on a time: below 1001 it lies inside the schedule tables. -/
theorem level_chk (t : BitVec 32) (ht : t.toNat < 1001) : k1_chk3 t := by
  intro a
  obtain rfl : a = 0 := Subsingleton.elim (α := Fin 1) _ _
  show t.toNat + 1 ≤ 1001
  omega

/-- The rows of a block written one after the other make up the block. -/
theorem read_rows {κ : Kind} {sp : Space} (v : View sig κ sp S2x3x512x512 .f32) (f : v.ty.Contents (Elt F))
    (p0 p1 : S1x3x512x512.Idx → F .f32) (w : S2x3x512x512.Idx → F .f32)
    (h0 : ∀ (z : S1x3x512x512.Idx) (y : S2x3x512x512.Idx), (∀ a, (y a).val = (![0, 0, 0, 0] : Fin 4 → Nat) a + 1 * (z a).val) → p0 z = w y)
    (h1 : ∀ (z : S1x3x512x512.Idx) (y : S2x3x512x512.Idx), (∀ a, (y a).val = (![1, 0, 0, 0] : Fin 4 → Nat) a + 1 * (z a).val) → p1 z = w y) :
    v.read (Elt F) (v.writes (Elt F) f
      [⟨Rect.unit (s := S2x3x512x512) ![1, 0, 0, 0] S1x3x512x512.size inb_S2x3x512x512_S1x3x512x512_1_0_0_0, p1⟩,
        ⟨Rect.unit (s := S2x3x512x512) ![0, 0, 0, 0] S1x3x512x512.size inb_S2x3x512x512_S1x3x512x512_0_0_0_0, p0⟩]) = w := by
  funext y
  let z : S1x3x512x512.Idx := fun a => ⟨(y a).val % S1x3x512x512.size a, Nat.mod_lt _ (by fin_cases a <;> decide)⟩
  have b0 : (y 0).val < 2 := (y 0).isLt
  have b1 : (y 1).val < 3 := (y 1).isLt
  have b2 : (y 2).val < 512 := (y 2).isLt
  have b3 : (y 3).val < 512 := (y 3).isLt
  by_cases hy : (y 0).val = 0
  · have hz : ∀ a, (y a).val = (![0, 0, 0, 0] : Fin 4 → Nat) a + 1 * (z a).val := by
      intro a
      fin_cases a
      · show (y 0).val = 0 + 1 * ((y 0).val % 1); omega
      · show (y 1).val = 0 + 1 * ((y 1).val % 3); omega
      · show (y 2).val = 0 + 1 * ((y 2).val % 512); omega
      · show (y 3).val = 0 + 1 * ((y 3).val % 512); omega
    refine (View.read_writes_cons_miss_of_axis v f _ _ y 0 1 1 rfl rfl rfl (Or.inl (by omega))).trans ?_
    exact (View.read_writes_cons_hit_of_coords v f _ _ [] z y hz).trans (h0 z y hz)
  · have hz : ∀ a, (y a).val = (![1, 0, 0, 0] : Fin 4 → Nat) a + 1 * (z a).val := by
      intro a
      fin_cases a
      · show (y 0).val = 1 + 1 * ((y 0).val % 1); omega
      · show (y 1).val = 0 + 1 * ((y 1).val % 3); omega
      · show (y 2).val = 0 + 1 * ((y 2).val % 512); omega
      · show (y 3).val = 0 + 1 * ((y 3).val % 512); omega
    exact (View.read_writes_cons_hit_of_coords v f _ _ _ z y hz).trans (h1 z y hz)

/-! ## The body -/

section Run

variable (c : Dev nD) (i : grid1.Coords)
  (M1 : Memref sig .tc .smem S32 .i32) (h1 : M1.IsWhole) (M2 : Memref sig .tc .smem S64 .i32) (h2 : M2.IsWhole)
  (M3 : Memref sig .tc .smem S1001 .f32) (h3 : M3.IsWhole) (M4 : Memref sig .tc .smem S1001 .f32) (h4 : M4.IsWhole)
  (M5 : Memref sig .tc .vmem S2x3x512x512 .f32) (h5 : M5.IsWhole) (M6 : Memref sig .tc .vmem S2x3x512x512 .f32) (h6 : M6.IsWhole)
  (M7 : Memref sig .tc .vmem S2x3x512x512 .f32) (h7 : M7.IsWhole)
  (f1 : M1.view.ty.Contents (Elt F)) (f2 : M2.view.ty.Contents (Elt F)) (f3 : M3.view.ty.Contents (Elt F)) (f4 : M4.view.ty.Contents (Elt F))
  (f5 : M5.view.ty.Contents (Elt F)) (f6 : M6.view.ty.Contents (Elt F)) (f7 : M7.view.ty.Contents (Elt F))

/-- The six inputs' staging buffers, held whole. -/
abbrev inputs : sProp 𝕄 :=
  iprop((M1.view.loc (c : Thread nD τ) ↦{fullShare} f1) ∗ (M2.view.loc (c : Thread nD τ) ↦{fullShare} f2)
    ∗ (M3.view.loc (c : Thread nD τ) ↦{fullShare} f3) ∗ (M4.view.loc (c : Thread nD τ) ↦{fullShare} f4)
    ∗ (M5.view.loc (c : Thread nD τ) ↦{fullShare} f5) ∗ (M6.view.loc (c : Thread nD τ) ↦{fullShare} f6))

/-- The body at any grid point: from the six inputs' buffers, the indices below 64 and the times below 1001, it ends with
    the inputs as they were and the result's buffer at `blockOut` of what they hold. -/
theorem combine_run (hidx : ∀ k, (M1.view.read (Elt F) f1 k : BitVec 32).toNat < 64) (htab : ∀ k, (M2.view.read (Elt F) f2 k : BitVec 32).toNat < 1001) :
    (iprop(inputs (F := F) c M1 M2 M3 M4 M5 M6 f1 f2 f3 f4 f5 f6 ∗ (M7.view.loc (c : Thread nD τ) ↦{fullShare} f7)) : sProp 𝕄)
      ⊢ wp frame (wpE (defs₀ (F := F)) 𝒱₀ c none) Set.univ
          (cc1__combine_kernel i M1 h1 M2 h2 M3 h3 M4 h4 M5 h5 M6 h6 M7 h7)
          fun _ => iprop(inputs (F := F) c M1 M2 M3 M4 M5 M6 f1 f2 f3 f4 f5 f6
            ∗ ∃ g, ⌜M7.view.read (Elt F) g = blockOut (M2.view.read (Elt F) f2) (M1.view.read (Elt F) f1) (M3.view.read (Elt F) f3)
                (M4.view.read (Elt F) f4) i (M5.view.read (Elt F) f5) (M6.view.read (Elt F) f6)⌝
              ∗ (M7.view.loc (c : Thread nD τ) ↦{fullShare} g)) := by
  unfold inputs
  rw [cc1__combine_kernel_eq_skeleton]; unfold cc1__combine_kernel_skel
  rw [k1_part1_eq_skeleton]; unfold k1_part1_skel
  iintro ⟨⟨H1, H2, H3, H4, H5, H6⟩, H7⟩
  sl_exec
  have e0 : combine_run.sl.r (F := F) i M1 f1 = M1.view.read (Elt F) f1 (pos (sample i 0)) := by
    unfold combine_run.sl.r; exact read_first _ i f1 _
  have c0 : k1_chk1 (combine_run.sl.r (F := F) i M1 f1) := by rw [e0]; exact time_chk _ (hidx _)
  iapply (wp_assume 𝒱₀ (c : Thread nD τ) none Set.univ c0)
  sl_exec
  have e1 : combine_run.sl.r_1 (F := F) i M1 M2 f1 f2 c0
      = lookup (M2.view.read (Elt F) f2) (M1.view.read (Elt F) f1) (pos (sample i 0)) := by
    unfold combine_run.sl.r_1
    refine (read_time _ _ (by rw [e0]; exact hidx _) _ f2 _).trans ?_
    rw [e0]; rfl
  have c1 : k1_chk3 (combine_run.sl.r_1 (F := F) i M1 M2 f1 f2 c0) := by rw [e1]; exact level_chk _ (htab _)
  iapply (wp_assume 𝒱₀ (c : Thread nD τ) none Set.univ c1)
  sl_exec
  have e2 : combine_run.sl.r_2 (F := F) i M1 f1 = M1.view.read (Elt F) f1 (pos (sample i 1)) := by
    unfold combine_run.sl.r_2; exact read_second _ i f1 _
  have c2 : k1_chk2 (combine_run.sl.r_2 (F := F) i M1 f1) := by rw [e2]; exact time_chk _ (hidx _)
  iapply (wp_assume 𝒱₀ (c : Thread nD τ) none Set.univ c2)
  sl_exec
  have e3 : combine_run.sl.r_3 (F := F) i M1 M2 f1 f2 c2
      = lookup (M2.view.read (Elt F) f2) (M1.view.read (Elt F) f1) (pos (sample i 1)) := by
    unfold combine_run.sl.r_3
    refine (read_time _ _ (by rw [e2]; exact hidx _) _ f2 _).trans ?_
    rw [e2]; rfl
  have c3 : k1_chk4 (combine_run.sl.r_3 (F := F) i M1 M2 f1 f2 c2) := by rw [e3]; exact level_chk _ (htab _)
  iapply (wp_assume 𝒱₀ (c : Thread nD τ) none Set.univ c3)
  sl_exec
  have e4 : combine_run.sl.r_4 (F := F) i M1 M2 M3 f1 f2 f3 c0 c1
      = M3.view.read (Elt F) f3 (level (lookup (M2.view.read (Elt F) f2) (M1.view.read (Elt F) f1) (pos (sample i 0)))) := by
    unfold combine_run.sl.r_4
    refine (read_level M3.view _ (by rw [e1]; exact htab _) _ f3 _).trans ?_
    rw [e1]
  have e5 : combine_run.sl.r_5 (F := F) i M1 M2 M4 f1 f2 f4 c0 c1
      = M4.view.read (Elt F) f4 (level (lookup (M2.view.read (Elt F) f2) (M1.view.read (Elt F) f1) (pos (sample i 0)))) := by
    unfold combine_run.sl.r_5
    refine (read_level M4.view _ (by rw [e1]; exact htab _) _ f4 _).trans ?_
    rw [e1]
  have e6 : combine_run.sl.r_6 (F := F) i M1 M2 M3 f1 f2 f3 c2 c3
      = M3.view.read (Elt F) f3 (level (lookup (M2.view.read (Elt F) f2) (M1.view.read (Elt F) f1) (pos (sample i 1)))) := by
    unfold combine_run.sl.r_6
    refine (read_level M3.view _ (by rw [e3]; exact htab _) _ f3 _).trans ?_
    rw [e3]
  have e7 : combine_run.sl.r_7 (F := F) i M1 M2 M4 f1 f2 f4 c2 c3
      = M4.view.read (Elt F) f4 (level (lookup (M2.view.read (Elt F) f2) (M1.view.read (Elt F) f1) (pos (sample i 1)))) := by
    unfold combine_run.sl.r_7
    refine (read_level M4.view _ (by rw [e3]; exact htab _) _ f4 _).trans ?_
    rw [e3]
  sl_step
  isplitl [H1 H2 H3 H4 H5 H6]; · sl_close
  iexists _; isplitr; swap; (· iexact H7)
  ipureintro
  refine read_rows (F := F) _ _ _ _ _ (fun z y hz => ?_) (fun z y hz => ?_)
  · rw [pay_first, e4, e5]
    have hr : y 0 = (0 : Fin 2) := Fin.ext (by
      have := hz 0; have hz0 : (z 0).val < 1 := (z 0).isLt
      have e : (y 0).val = 0 + 1 * (z 0).val := this
      show (y 0).val = 0; omega)
    show _ = noised _ _ (lookup _ _ (pos (sample i (y 0)))) _ _
    rw [hr, ← read_at M5.view ![0, 0, 0, 0] S1x3x512x512.size inb_S2x3x512x512_S1x3x512x512_0_0_0_0 f5 z y hz,
      ← read_at M6.view ![0, 0, 0, 0] S1x3x512x512.size inb_S2x3x512x512_S1x3x512x512_0_0_0_0 f6 z y hz]
    rfl
  · rw [pay_second, e6, e7]
    have hr : y 0 = (1 : Fin 2) := Fin.ext (by
      have := hz 0; have hz0 : (z 0).val < 1 := (z 0).isLt
      have e : (y 0).val = 1 + 1 * (z 0).val := this
      show (y 0).val = 1; omega)
    show _ = noised _ _ (lookup _ _ (pos (sample i (y 0)))) _ _
    rw [hr, ← read_at M5.view ![1, 0, 0, 0] S1x3x512x512.size inb_S2x3x512x512_S1x3x512x512_1_0_0_0 f5 z y hz,
      ← read_at M6.view ![1, 0, 0, 0] S1x3x512x512.size inb_S2x3x512x512_S1x3x512x512_1_0_0_0 f6 z y hz]
    rfl

end Run

end Cert.Proof
-- ==== Proof.Region.lean ====
/-
  The second call: the body at every grid point, the call as one step of the program, and the array that its blocks
  make up.
-/
module

public import Idealize.ShloMosaic.Lib.Pipeline.ValueKit
public import proofs.«01_k».proof.Proof.Combine

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## The result's array -/

/-- The noised array: each element of a sample at the time looked up for that sample. -/
def noisedAll (tab : S64.Idx → BitVec 32) (idx : S32.Idx → BitVec 32) (at' bt : S1001.Idx → F .f32)
    (x n : S32x3x512x512.Idx → F .f32) : S32x3x512x512.Idx → F .f32 :=
  fun y => noised at' bt (lookup tab idx (pos (y 0))) (x y) (n y)

/-- Where grid point `i`'s block has its element `y` in the array. -/
def spot (i : grid1.Coords) (y : S2x3x512x512.Idx) : S32x3x512x512.Idx := fun a => match a with
  | ⟨0, _⟩ => sample i (y 0)
  | ⟨1, _⟩ => y 1
  | ⟨2, _⟩ => y 2
  | ⟨3, _⟩ => y 3

/-! ## The proof's data: what every window's buffer holds after the body -/

variable (V : (c : Dev nD) → (b : Ref sig .tc) → Buf (Elt F) ((c : Thread nD τ).loc b))

/-- Window `w`'s block of its array at point `t`. -/
abbrev blkOf (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The waits recorded by a TensorCore that has made the first call. -/
abbrev below (c : Dev nD) : Set (SemLoc sig × HIx 1) := {p | (K (F := F)).lev ((T c : Thread nD τ), p.1) p.2 ≤ 8 * 1}

/-- The arrays at `V`; after the body the inputs' buffers hold their blocks and the result's the noised block; nothing is
    owed. -/
def dat (c : Dev nD) : Dat τ (Elt F) (HIx 1) ℕ UU ℕ cfg1 c where
  A w := V c (Pipeline.arrRef spec1 w)
  after w t := match w with
    | ⟨0, _⟩ => blkOf V c 0 t
    | ⟨1, _⟩ => blkOf V c 1 t
    | ⟨2, _⟩ => blkOf V c 2 t
    | ⟨3, _⟩ => blkOf V c 3 t
    | ⟨4, _⟩ => blkOf V c 4 t
    | ⟨5, _⟩ => blkOf V c 5 t
    | ⟨6, _⟩ => blockOut (V c main_arg3) (V c main_arg4) (V c main_arg1) (V c main_arg2) (grid1.coords t) (blkOf V c 4 t) (blkOf V c 5 t)
  Φ _ := BI.emp
  q _ := fullShare
  owed _ := 0
  recorded _ := below (F := F) c

/-! ## The blocks -/

/-- The index window's block is its whole array. -/
theorem whole_idx (t : Fin cfg1.N) (A : S32.Idx → BitVec 32) : ((cfg1.win 0).blk t).view.read (Elt F) A = A :=
  funext fun y => congrArg A (funext fun a => by
    obtain rfl : a = 0 := Subsingleton.elim (α := Fin 1) _ _
    exact Fin.ext (show 0 * S32.size 0 + 1 * (y 0).val = (y 0).val by omega))
/-- The table window's block is its whole array. -/
theorem whole_tab (t : Fin cfg1.N) (A : S64.Idx → BitVec 32) : ((cfg1.win 1).blk t).view.read (Elt F) A = A :=
  funext fun y => congrArg A (funext fun a => by
    obtain rfl : a = 0 := Subsingleton.elim (α := Fin 1) _ _
    exact Fin.ext (show 0 * S64.size 0 + 1 * (y 0).val = (y 0).val by omega))
/-- The first schedule table's block is its whole array. -/
theorem whole_a (t : Fin cfg1.N) (A : S1001.Idx → F .f32) : ((cfg1.win 2).blk t).view.read (Elt F) A = A :=
  funext fun y => congrArg A (funext fun a => by
    obtain rfl : a = 0 := Subsingleton.elim (α := Fin 1) _ _
    exact Fin.ext (show 0 * S1001.size 0 + 1 * (y 0).val = (y 0).val by omega))
/-- The second schedule table's block is its whole array. -/
theorem whole_b (t : Fin cfg1.N) (A : S1001.Idx → F .f32) : ((cfg1.win 3).blk t).view.read (Elt F) A = A :=
  funext fun y => congrArg A (funext fun a => by
    obtain rfl : a = 0 := Subsingleton.elim (α := Fin 1) _ _
    exact Fin.ext (show 0 * S1001.size 0 + 1 * (y 0).val = (y 0).val by omega))

/-- Where the result window's block lies in its array. -/
theorem emb_out (t : Fin cfg1.N) (y : S2x3x512x512.Idx) : ((cfg1.win 6).blk t).view.emb y = spot (grid1.coords t) y := by
  have e : cc1_transform_6 (grid1.coords t) 0 = (grid1.coords t 0).val := by
    have : (grid1.coords t 0).val < 16 := (grid1.coords t 0).isLt
    show (grid1.coords t 0).val % 2 ^ 32 = _
    omega
  funext a
  match a with
  | ⟨0, _⟩ =>
    exact Fin.ext (show cc1_transform_6 (grid1.coords t) 0 * 2 + 1 * (y 0).val = 2 * (grid1.coords t 0).val + (y 0).val by rw [e]; omega)
  | ⟨1, _⟩ => exact Fin.ext (show 0 * 3 + 1 * (y 1).val = (y 1).val by omega)
  | ⟨2, _⟩ => exact Fin.ext (show 0 * 512 + 1 * (y 2).val = (y 2).val by omega)
  | ⟨3, _⟩ => exact Fin.ext (show 0 * 512 + 1 * (y 3).val = (y 3).val by omega)

/-- The first float input's block, element by element. -/
theorem blk_x (t : Fin cfg1.N) (A : S32x3x512x512.Idx → F .f32) (y : S2x3x512x512.Idx) :
    ((cfg1.win 4).blk t).view.read (Elt F) A y = A (spot (grid1.coords t) y) := congrArg A (emb_out t y)
/-- The noise's block, element by element. -/
theorem blk_n (t : Fin cfg1.N) (A : S32x3x512x512.Idx → F .f32) (y : S2x3x512x512.Idx) :
    ((cfg1.win 5).blk t).view.read (Elt F) A y = A (spot (grid1.coords t) y) := congrArg A (emb_out t y)

/-- After the call the result's array is the noised array. -/
theorem final_out (c : Dev nD) : (dat V c).arrAt 6 cfg1.N
    = noisedAll (V c main_arg3) (V c main_arg4) (V c main_arg1) (V c main_arg2) (V c main_arg0) (V c main_arg5) := by
  refine (dat V c).arrAt_eq_of_covers 6 _ (by decide +kernel) fun t _ y => ?_
  show blockOut _ _ _ _ (grid1.coords t) (blkOf V c 4 t) (blkOf V c 5 t) y = noisedAll _ _ _ _ _ _ (((cfg1.win 6).blk t).view.emb y)
  rw [emb_out]
  show noised _ _ _ (((cfg1.win 4).blk t).view.read (Elt F) (V c main_arg0) y) (((cfg1.win 5).blk t).view.read (Elt F) (V c main_arg5) y) = noised _ _ _ _ _
  rw [blk_x, blk_n]
  rfl

/-! ## The body obligation -/

omit [FloatOps F] in
/-- A whole buffer owned at `X` is the buffer held at some contents that read as `X`. -/
theorem owns_whole_read (c : Dev nD) {sp : Space} {s : Shape} {e : EltTy} (M : Memref sig .tc sp s e) (h : M.IsWhole) (X : s.Idx → Elt F e) :
    (owns (c : Thread nD τ) M fullShare X : sProp 𝕄) = iprop(∃ f, ⌜M.view.read (Elt F) f = X⌝ ∗ (M.view.loc (c : Thread nD τ) ↦{fullShare} f)) := by
  obtain ⟨b, rfl, rfl, rfl, hM⟩ := h
  obtain rfl := eq_of_heq hM
  unfold owns; rw [Memref.view_whole, View.set_whole]

/-- The body with every buffer owned at what it holds. -/
theorem combine_owns (c : Dev nD) (i : grid1.Coords)
    (M1 : Memref sig .tc .smem S32 .i32) (h1 : M1.IsWhole) (M2 : Memref sig .tc .smem S64 .i32) (h2 : M2.IsWhole)
    (M3 : Memref sig .tc .smem S1001 .f32) (h3 : M3.IsWhole) (M4 : Memref sig .tc .smem S1001 .f32) (h4 : M4.IsWhole)
    (M5 : Memref sig .tc .vmem S2x3x512x512 .f32) (h5 : M5.IsWhole) (M6 : Memref sig .tc .vmem S2x3x512x512 .f32) (h6 : M6.IsWhole)
    (M7 : Memref sig .tc .vmem S2x3x512x512 .f32) (h7 : M7.IsWhole)
    (idx : S32.Idx → BitVec 32) (tab : S64.Idx → BitVec 32) (at' bt : S1001.Idx → F .f32) (x n z : S2x3x512x512.Idx → F .f32)
    (hidx : ∀ k, (idx k).toNat < 64) (htab : ∀ k, (tab k).toNat < 1001) :
    (iprop(owns (c : Thread nD τ) M1 fullShare idx ∗ owns (c : Thread nD τ) M2 fullShare tab ∗ owns (c : Thread nD τ) M3 fullShare at'
        ∗ owns (c : Thread nD τ) M4 fullShare bt ∗ owns (c : Thread nD τ) M5 fullShare x ∗ owns (c : Thread nD τ) M6 fullShare n
        ∗ owns (c : Thread nD τ) M7 fullShare z) : sProp 𝕄)
      ⊢ wp frame (wpE (defs₀ (F := F)) 𝒱₀ c none) Set.univ
          (cc1__combine_kernel i M1 h1 M2 h2 M3 h3 M4 h4 M5 h5 M6 h6 M7 h7)
          fun _ => iprop(owns (c : Thread nD τ) M1 fullShare idx ∗ owns (c : Thread nD τ) M2 fullShare tab ∗ owns (c : Thread nD τ) M3 fullShare at'
        ∗ owns (c : Thread nD τ) M4 fullShare bt ∗ owns (c : Thread nD τ) M5 fullShare x ∗ owns (c : Thread nD τ) M6 fullShare n
        ∗ owns (c : Thread nD τ) M7 fullShare (blockOut tab idx at' bt i x n)) := by
  rw [owns_whole_read _ M1 h1, owns_whole_read _ M2 h2, owns_whole_read _ M3 h3, owns_whole_read _ M4 h4, owns_whole_read _ M5 h5,
    owns_whole_read _ M6 h6, owns_whole_read _ M7 h7, owns_whole_read _ M7 h7]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, -, H7⟩⟩
  subst e1 e2 e3 e4 e5 e6
  iapply (wp_wand_r frame (wpE (defs₀ (F := F)) 𝒱₀ (c : Thread nD τ) none) Set.univ)
  isplitl [H1 H2 H3 H4 H5 H6 H7]
  · iapply (combine_run c i M1 h1 M2 h2 M3 h3 M4 h4 M5 h5 M6 h6 M7 h7 f1 f2 f3 f4 f5 f6 f7 hidx htab)
    isplitr [H7]; swap; (· iexact H7)
    isplitl [H1]; · iexact H1
    isplitl [H2]; · iexact H2
    isplitl [H3]; · iexact H3
    isplitl [H4]; · iexact H4
    isplitl [H5]; · iexact H5
    iexact H6
  iintro %_ ⟨⟨H1, H2, H3, H4, H5, H6⟩, %g, %hg, H7⟩
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists g; isplitr; · ipureintro; exact hg
  iexact H7

/-- An input window's buffer holds its block when the body runs. -/
theorem before_in (c : Dev nD) (t : Fin cfg1.N) :
    (∀ d, (dat V c).before 0 t d = blkOf V c 0 t) ∧ (∀ d, (dat V c).before 1 t d = blkOf V c 1 t) ∧ (∀ d, (dat V c).before 2 t d = blkOf V c 2 t)
      ∧ (∀ d, (dat V c).before 3 t d = blkOf V c 3 t) ∧ (∀ d, (dat V c).before 4 t d = blkOf V c 4 t) ∧ (∀ d, (dat V c).before 5 t d = blkOf V c 5 t) :=
  ⟨(dat V c).before_in_eq_fetched 0 rfl (fun _ => rfl) (fun _ _ _ => rfl) (fun _ => rfl) t, (dat V c).before_in_eq_fetched 1 rfl (fun _ => rfl) (fun _ _ _ => rfl) (fun _ => rfl) t,
    (dat V c).before_in_eq_fetched 2 rfl (fun _ => rfl) (fun _ _ _ => rfl) (fun _ => rfl) t, (dat V c).before_in_eq_fetched 3 rfl (fun _ => rfl) (fun _ _ _ => rfl) (fun _ => rfl) t,
    (dat V c).before_in_eq_fetched 4 rfl (fun _ => rfl) (fun _ _ _ => rfl) (fun _ => rfl) t, (dat V c).before_in_eq_fetched 5 rfl (fun _ => rfl) (fun _ _ _ => rfl) (fun _ => rfl) t⟩

/-- The body at every point: from every window's buffer as the pipeline hands it over to what `dat` says it leaves. -/
theorem body_obligation (c : Dev nD) (hidx : ∀ k, (V c main_arg4 k : BitVec 32).toNat < 64) (htab : ∀ k, (V c main_arg3 k : BitVec 32).toNat < 1001) :
    BodyObligation (dat V c) (defs₀ (F := F)) 𝒱₀ none Set.univ := fun t => by
  rw [bigSep_W1, bigSep_W1]
  rw [show (dat V c).Φ t.castSucc = BI.emp from rfl, show (dat V c).Φ t.succ = BI.emp from rfl,
    show (dat V c).owesAt none t.succ = (dat V c).owesAt none t.castSucc from rfl]
  show _ ⊢ wp _ _ _ (bodyAt1 t) _
  obtain ⟨b0, b1, b2, b3, b4, b5⟩ := before_in V c t
  simp only [b0, b1, b2, b3, b4, b5]
  iintro ⟨-, Howes, ⟨%d0, H0⟩, ⟨%d1, H1⟩, ⟨%d2, H2⟩, ⟨%d3, H3⟩, ⟨%d4, H4⟩, ⟨%d5, H5⟩, ⟨%d6, H6⟩⟩
  iapply (wp_wand_r frame (wpE (defs₀ (F := F)) 𝒱₀ (c : Thread nD τ) none) Set.univ)
  isplitr [Howes]
  · iapply (combine_owns (F := F) c (grid1.coords t) _ _ _ _ _ _ _ _ _ _ _ _ _ _ (blkOf V c 0 t) (blkOf V c 1 t) (blkOf V c 2 t) (blkOf V c 3 t) (blkOf V c 4 t) (blkOf V c 5 t) _
      (fun k => (congrArg BitVec.toNat (congrFun (whole_idx (F := F) t (V c main_arg4)) k)).trans_lt (hidx k))
      (fun k => (congrArg BitVec.toNat (congrFun (whole_tab (F := F) t (V c main_arg3)) k)).trans_lt (htab k)))
    isplitl [H0]; · iexact H0
    isplitl [H1]; · iexact H1
    isplitl [H2]; · iexact H2
    isplitl [H3]; · iexact H3
    isplitl [H4]; · iexact H4
    isplitl [H5]; · iexact H5
    iexact H6
  iintro %_ ⟨H0, H1, H2, H3, H4, H5, H6⟩
  isplitr; · iempintro
  isplitl [Howes]; · iexact Howes
  isplitl [H0]; · iexact H0
  isplitl [H1]; · iexact H1
  isplitl [H2]; · iexact H2
  isplitl [H3]; · iexact H3
  isplitl [H4]; · iexact H4
  isplitl [H5]; · iexact H5
  dsimp only [dat]
  rw [← whole_tab (F := F) t (V c main_arg3), ← whole_idx (F := F) t (V c main_arg4), ← whole_a t (V c main_arg1), ← whole_b t (V c main_arg2)]
  iexact H6

end Cert.Proof
-- ==== Proof.Call.lean ====
/-
  The second call as one step of the program: entered with every array of the TensorCore at some contents, it ends with
  the noised array in its result and everything else as it was.
-/
module

public import proofs.«01_k».proof.Proof.Region

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- The pipeline prefetches no table. -/
abbrev adm (p : Fin 1) : (pcfgs (F := F) p).Adm := (cfgs p).toPCfg_adm

variable (V : (c : Dev nD) → (b : Ref sig .tc) → Buf (Elt F) ((c : Thread nD τ).loc b))

/-- The one pipeline's data. -/
def pdats (p : Fin 1) (c : Dev nD) : Dat τ (Elt F) (HIx 1) ℕ UU ℕ (Pipeline.pin (pcfgs (F := F)) adm p) c := dat V c

/-- The arrays after the call: the noised array in its result. -/
def noisedIn (c : Dev nD) : (b : Ref sig .tc) → Buf (Elt F) ((c : Thread nD τ).loc b) :=
  Function.update (V c) main_v1 (noisedAll (V c main_arg3) (V c main_arg4) (V c main_arg1) (V c main_arg2) (V c main_arg0) (V c main_arg5))

/-- The TensorCore owes nothing, its waits so far those of the first call. -/
abbrev settled (c : Dev nD) : sProp 𝕄 :=
  iprop(∃ W, ⌜(K (F := F)).WBelow (T c) W (8 * 1)⌝ ∗ owes (c : Thread nD τ) (0 : CellTallies nD τ sig (HIx 1)) W)

set_option backward.isDefEq.respectTransparency.types false in
/-- The call as a segment of the program. -/
def callSeg (hidx : ∀ c k, (V c main_arg4 k : BitVec 32).toNat < 64) (htab : ∀ c k, (V c main_arg3 k : BitVec 32).toNat < 1001) :
    Pipeline.RegionSeg (pcfgs (F := F)) adm (pdats V) none (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c (hidx c) (htab c)).loose
  hwaits := Pipeline.hwaits_of_owed_zero _ _ _ _ (K (F := F)).L (K (F := F)).lev 0 fun _ _ => rfl
  pre c := iprop(unscopedBufs c (V c) ∗ settled c)
  post c := iprop(unscopedBufs c (noisedIn V c) ∗ settled c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = BI.emp from rfl]
    iintro ⟨-, -, Hr⟩
    ihave H := (Entails.of_eq (scopedRest1_eq (Ix := HIx 1) (Val := Elt F) (Name := ℕ) (U := UU) (Lvl := ℕ) c)) $$ Hr
    iexact H
  hout c := by
    rw [Pipeline.ownSems0_none, show (pdats V 0 c).Φ (Fin.last _) = BI.emp from rfl]
    iintro -
    isplitr; · iempintro
    isplitr; · iempintro
    iapply (Entails.of_eq (scopedRest1_eq (Ix := HIx 1) (Val := Elt F) (Name := ℕ) (U := UU) (Lvl := ℕ) c).symm)
    iempintro
  hexit c := by
    have hne : ∀ b : Ref sig .tc, b ≠ main_v1 → noisedIn V c b = V c b := fun b hb => Function.update_of_ne hb _ _
    have hin : ∀ w, (cfg1.win w).isOut = false → Pipeline.arrRef spec1 w ≠ main_v1 →
        (pdats V 0 c).arrAt w cfg1.N = noisedIn V c (Pipeline.arrRef spec1 w) :=
      fun w hw hb => ((pdats V 0 c).arrAt_in w hw _).trans (hne _ hb).symm
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (noisedIn V c) ((pdats V 0 c).arrAt · cfg1.N)
      (fun w => by
        fin_cases w
        · exact hin 0 rfl (by decide)
        · exact hin 1 rfl (by decide)
        · exact hin 2 rfl (by decide)
        · exact hin 3 rfl (by decide)
        · exact hin 4 rfl (by decide)
        · exact hin 5 rfl (by decide)
        · exact (final_out V c).trans (Function.update_self (f := V c) main_v1 _).symm)
      (fun b hb => hne b fun h => hb (h ▸ Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof
-- ==== Proof.Main.lean ====
/-
  The whole program's run: the first call, the second call, the reshape of the first call's result; and what the claims
  read of it at the end.
-/
module

public import proofs.«01_k».proof.Proof.Scalar
public import proofs.«01_k».proof.Proof.Call
public import Idealize.ShloMosaic.Lib.SparseCore.Quiescent
public import Idealize.ShloMosaic.Lib.StableHlo.Run

@[expose] public section

noncomputable section

namespace Cert.Proof

open Cert.KernelIdeal Cert.KernelIdeal.Gen

open Idealize.ShloMosaic
open Idealize.ShloMosaic.TcCoe Idealize.ShloMosaic.Tactic
open Idealize.ShloMosaic.StableHlo (held wp_hlo_within)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The launch's resources -/

/-- What the launch starts with: the first call's rounds, the second call's rounds, no counter. -/
def u₀ : UU := (initOf (K (F := F)).hsCells (K (F := F)).hsToks, (initOf (Pipeline.cells cfgs cellOf_inj) (Pipeline.launchToks cfgs cellOf_inj), 1))

/-- The second call's part, on one device. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

variable (m : (ℓ : Loc nD τ sig) → Buf (Elt F) ℓ) (ρ : Dev nD → PrngReg)

omit [FloatOps F] in
/-- Many empty things are nothing. -/
theorem bigSep_nothing {I : Type} (s : Finset I) : (bigSep s fun _ => iprop(emp)) = (iprop(emp) : sProp 𝕄) := bigSep_emp_const s

omit [FloatOps F] in
/-- The second call's ghost state, under the name it is kept under. -/
theorem own_EP (x : UP) : (BI.own ((Emb.inl.trans (embR (nD := nD) (sig := sig) (Ix := HIx 1) (Val := Elt F) (Name := ℕ) (Lvl := ℕ) : Emb (UP × Counters) 𝕄)) x) : sProp 𝕄)
    ⊢ BI.own ((EP (F := F)) x) := .rfl

/-- The launch's resources split into the two calls' parts. -/
theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  unfold u₀
  iintro Hu
  ihave H := (ownU_pair (initOf (K (F := F)).hsCells (K (F := F)).hsToks) (initOf (Pipeline.cells cfgs cellOf_inj) (Pipeline.launchToks cfgs cellOf_inj), (1 : Counters))) $$ Hu
  icases H with ⟨HH, HR⟩
  ihave H := (own_pair_emb (embR (nD := nD) (sig := sig) (Ix := HIx 1) (Val := Elt F) (Name := ℕ) (Lvl := ℕ)) (initOf (Pipeline.cells cfgs cellOf_inj) (Pipeline.launchToks cfgs cellOf_inj)) (1 : Counters)) $$ HR
  icases H with ⟨HP, -⟩
  ihave HP := (own_EP (initOf (Pipeline.cells cfgs cellOf_inj) (Pipeline.launchToks cfgs cellOf_inj))) $$ HP
  imod (Pipeline.fund_ghost (Val := Elt F) (Ix := HIx 1) (Name := ℕ) (Lvl := ℕ) cfgs (EP (F := F)) cellOf_inj) $$ HP with ⟨Hg, Ht⟩
  imodintro
  isplitl [HH]; · iexact HH
  isplitl [Hg Ht]
  · rw [bigSep_sep']
    isplitl [Hg]
    · iapply (Entails.of_eq (bigSep_congr (s := Finset.univ) (Ψ := fun c : Dev nD => Pipeline.cellsGhost (Pipeline.pin (pcfgs (F := F)) adm) (EP (F := F)) 0 c)
        (Φ := fun c => bigSep Finset.univ fun p : Fin 1 => Pipeline.cellsGhost (Pipeline.pin (pcfgs (F := F)) adm) (EP (F := F)) p c)
        fun c _ => bigSep_univ_of_subsingleton (0 : Fin 1))); iexact Hg
    · iapply (Entails.of_eq (bigSep_congr (s := Finset.univ) (Ψ := fun c : Dev nD => Pipeline.toksInit (Pipeline.pin (pcfgs (F := F)) adm) (EP (F := F)) 0 c)
        (Φ := fun c => bigSep Finset.univ fun p : Fin 1 => Pipeline.toksInit (Pipeline.pin (pcfgs (F := F)) adm) (EP (F := F)) p c)
        fun c _ => bigSep_univ_of_subsingleton (0 : Fin 1))); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The TensorCore's arrays -/

/-- A TensorCore's array held whole at `f`. -/
abbrev pts (d : Dev nD) (b : Ref sig .tc) (f : Buf (Elt F) (loc d b)) : sProp 𝕄 := loc d b ↦{fullShare} f

omit [FloatOps F] in
/-- The TensorCore's arrays one by one. -/
theorem unscopedBufs_eq (d : Dev nD) (W : (b : Ref sig .tc) → Buf (Elt F) ((d.tc : Thread nD τ).loc b)) :
    (unscopedBufs d W : sProp 𝕄) = iprop(pts d main_arg0 (W main_arg0) ∗ pts d main_arg1 (W main_arg1) ∗ pts d main_arg2 (W main_arg2)
      ∗ pts d main_arg3 (W main_arg3) ∗ pts d main_arg4 (W main_arg4) ∗ pts d main_arg5 (W main_arg5)
      ∗ pts d main_v0 (W main_v0) ∗ pts d main_v1 (W main_v1) ∗ pts d main_v2 (W main_v2)) := by
  unfold unscopedBufs
  rw [show (Finset.univ.filter fun b : Ref sig .tc => ¬ b.isScoped)
      = {main_arg0, main_arg1, main_arg2, main_arg3, main_arg4, main_arg5, main_v0, main_v1, main_v2} by decide]
  iterate 8 rw [SparseCore.bigSep_insert' (by decide)]
  rw [bigSep_singleton]

/-- The arrays after the first call. -/
def V1 (d : Dev nD) : (b : Ref sig .tc) → Buf (Elt F) ((d.tc : Thread nD τ).loc b) :=
  Function.update (fun b => m ((d.tc : Thread nD τ).loc b)) main_v0 (tOf m d)

/-- The first result: the noised array of the launch's arguments. -/
def xOf (d : Dev nD) : S32x3x512x512.Idx → F .f32 :=
  noisedAll (tabOf m d) (idxOf m d) (m (loc d main_arg1)) (m (loc d main_arg2)) (m (loc d main_arg0)) (m (loc d main_arg5))

/-- The second result: the looked-up times as one column. -/
def colOf (d : Dev nD) : S32x1.Idx → BitVec 32 := shapeCast S32x1 (tOf m d) shapeCasts_S32_S32x1

/-! ## The second call, in the program's own calls -/

/-- The second call run from any contents in which the indices and times are in range. -/
theorem call_run (W : (c : Dev nD) → (b : Ref sig .tc) → Buf (Elt F) ((c : Thread nD τ).loc b)) [∀ e, Nonempty (Elt F e)]
    (hidx : ∀ c k, (W c main_arg4 k : BitVec 32).toNat < 64) (htab : ∀ c k, (W c main_arg3 k : BitVec 32).toNat < 1001)
    (d : Dev nD) (Φ : PUnit → sProp 𝕄) :
    iprop((iprop(boundary (T d : Thread nD τ) ∗ unscopedBufs d (noisedIn W d) ∗ settled d) -∗ Φ ⟨⟩)
        ∗ boundary (T d : Thread nD τ) ∗ (unscopedBufs d (W d) ∗ settled d) ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Φ := by
  have h1 := (K (F := F)).wp_liftProg (D (F := F)) 𝒱 (SparseCore.T d) (Name := ℕ) (U := UU) (N := 1) Set.univ none
    (Prog.lift (.customCall (Pipeline.entry (0 : Fin 1)) ()) : Prog (TpuEff nD τ sig (Elt F) (ΛP (F := F)) .tc) PUnit) Φ
  have h2 := (callSeg W hidx htab).wp (pcfgs (F := F)) adm (pdats W) none cellOf_inj (EP (F := F)) defs₀ 𝒱₀ (K (F := F)).L (K (F := F)).lev d none
    (fun _ h => nomatch h) (fun r => (.ret r : Prog (TpuEff nD τ sig (Elt F) (ΛP (F := F)) .tc) PUnit)) Φ
  refine BIBase.Entails.trans ?_ (BIBase.Entails.trans h2 h1)
  iintro ⟨Hk, Hb, Hpre, Hlv, Hg, Ht⟩
  isplitl [Hk]
  · iintro ⟨Hb, Hpost⟩
    rw [wp_ret]; imodintro
    iapply Hk
    isplitl [Hb]; · iexact Hb
    iapply (show (callSeg W hidx htab).post d ⊢ iprop(unscopedBufs d (noisedIn W d) ∗ settled d) from .rfl); iexact Hpost
  isplitl [Hb]; · iexact Hb
  isplitl [Hpre]
  · iapply (show iprop(unscopedBufs d (W d) ∗ settled d) ⊢ (callSeg W hidx htab).pre d from .rfl); iexact Hpre
  isplitl [Hlv]; · iexact Hlv
  isplitl [Hg]; · iexact Hg
  iexact Ht

/-! ## The program -/

/-- What the first call takes for its one SparseCore. -/
theorem st0_eq (d : Dev nD) : (bigSep Finset.univ fun c : Fin ((K (F := F)).nCore 0) => (P m).st 0 d c) = iprop(∃ g, callPts m d g) :=
  bigSep_univ_of_subsingleton (0 : Fin 1)

/-- What the first call hands back. -/
theorem dn0_eq (d : Dev nD) : (bigSep Finset.univ fun c : Fin ((K (F := F)).nCore 0) => (P m).dn 0 d c) = callPts m d (tOf m d) :=
  bigSep_univ_of_subsingleton (0 : Fin 1)

omit [FloatOps F] in
/-- The first of two things, under another name. -/
theorem first_of {A B R : sProp 𝕄} (e : A = B) : ∃ R', iprop(A ∗ R) = iprop(B ∗ R') := ⟨R, by rw [e]⟩

/-- Between the calls, the TensorCore's share of the first call's protocol: what it owes, and the rest. -/
theorem tcSt_one (d : Dev nD) : ∃ R : sProp 𝕄, ((K (F := F)).tcSt EH d 1 : sProp 𝕄) = iprop(settled d ∗ R) := by
  unfold SparseCore.Cfg.tcSt
  exact first_of (by rw [(K (F := F)).Otc_end d (le_refl 1)]; rfl)

/-- The array that the reshape reads. -/
abbrev v0' : DevRef τ sig := Proc.devRef .tc (main_v0 : Ref sig .tc)
/-- The array that the reshape writes. -/
abbrev v2' : DevRef τ sig := Proc.devRef .tc (main_v2 : Ref sig .tc)

/-- The reshape. -/
abbrev opCol : HloOp τ sig (Elt F) := StableHlo.reshape main_v0 main_v2 (rfl : (.i32 : EltTy) = .i32) shapeCasts_S32_S32x1

/-- The two arrays of the reshape, before it. -/
def V2 (d : Dev nD) : Valuation τ sig (Elt F) := Function.update (fun b => m (d, b)) v0' (tOf m d)

/-- The reshape holds its two arrays and nothing else. -/
theorem held_col (d : Dev nD) (W : Valuation τ sig (Elt F)) :
    (held (T d) {v0', v2'} W : sProp 𝕄) = iprop(pts d main_v0 (W v0') ∗ pts d main_v2 (W v2')) := by
  unfold held
  rw [SparseCore.bigSep_insert' (by decide), bigSep_singleton]

/-- The reshape reads the looked-up times. -/
theorem V2_v0 (d : Dev nD) : V2 m d v0' = tOf m d := Function.update_self _ _ _
/-- The array that it writes is as at the launch. -/
theorem V2_v2 (d : Dev nD) : V2 m d v2' = m (loc d main_v2) := Function.update_of_ne (show v2' ≠ v0' by decide) _ _

/-- The reshape's result: the column. -/
theorem col_result (d : Dev nD) : (opCol (F := F)).result (V2 m d) v2' = colOf m d := by
  refine (StableHlo.reshape_result _ _ _ _ _ _ _).trans ?_
  rfl

/-- The reshape touches these two arrays only. -/
theorem hCol : (opCol (F := F)).bufs ⊆ {v0', v2'} := show ({v0', v2'} : Finset (DevRef τ sig)) ⊆ {v0', v2'} by decide

/-- What the program leaves the claims: the arguments as they were, and the two results. -/
abbrev FIN (d : Dev nD) : sProp 𝕄 :=
  iprop(pts d main_arg0 (m (loc d main_arg0)) ∗ pts d main_arg1 (m (loc d main_arg1)) ∗ pts d main_arg2 (m (loc d main_arg2))
    ∗ pts d main_arg3 (m (loc d main_arg3)) ∗ pts d main_arg4 (m (loc d main_arg4)) ∗ pts d main_arg5 (m (loc d main_arg5))
    ∗ pts d main_v1 (xOf m d) ∗ pts d main_v2 (colOf m d))

/-- The arrays after the first call, one by one. -/
theorem bufs_V1 (d : Dev nD) : (unscopedBufs d (V1 m d) : sProp 𝕄)
    = iprop(pts d main_arg0 (m (loc d main_arg0)) ∗ pts d main_arg1 (m (loc d main_arg1)) ∗ pts d main_arg2 (m (loc d main_arg2))
    ∗ pts d main_arg3 (m (loc d main_arg3)) ∗ pts d main_arg4 (m (loc d main_arg4)) ∗ pts d main_arg5 (m (loc d main_arg5))
    ∗ pts d main_v0 (tOf m d) ∗ pts d main_v1 (m (loc d main_v1)) ∗ pts d main_v2 (m (loc d main_v2))) := by
  rw [unscopedBufs_eq]
  have h : ∀ b : Ref sig .tc, b ≠ main_v0 → V1 m d b = m (loc d b) := fun b hb => Function.update_of_ne hb _ _
  rw [h main_arg0 (by decide), h main_arg1 (by decide), h main_arg2 (by decide), h main_arg3 (by decide), h main_arg4 (by decide),
    h main_arg5 (by decide), h main_v1 (by decide), h main_v2 (by decide), show V1 m d main_v0 = tOf m d from Function.update_self _ _ _]

/-- The arrays after the second call, one by one. -/
theorem bufs_noised (d : Dev nD) : (unscopedBufs d (noisedIn (V1 m) d) : sProp 𝕄)
    = iprop(pts d main_arg0 (m (loc d main_arg0)) ∗ pts d main_arg1 (m (loc d main_arg1)) ∗ pts d main_arg2 (m (loc d main_arg2))
    ∗ pts d main_arg3 (m (loc d main_arg3)) ∗ pts d main_arg4 (m (loc d main_arg4)) ∗ pts d main_arg5 (m (loc d main_arg5))
    ∗ pts d main_v0 (tOf m d) ∗ pts d main_v1 (xOf m d) ∗ pts d main_v2 (m (loc d main_v2))) := by
  rw [unscopedBufs_eq]
  have h : ∀ b : Ref sig .tc, b ≠ main_v0 → V1 m d b = m (loc d b) := fun b hb => Function.update_of_ne hb _ _
  have h' : ∀ b : Ref sig .tc, b ≠ main_v1 → noisedIn (V1 m) d b = V1 m d b := fun b hb => Function.update_of_ne hb _ _
  rw [h' main_arg0 (by decide), h' main_arg1 (by decide), h' main_arg2 (by decide), h' main_arg3 (by decide), h' main_arg4 (by decide),
    h' main_arg5 (by decide), h' main_v0 (by decide), h' main_v2 (by decide),
    h main_arg0 (by decide), h main_arg1 (by decide), h main_arg2 (by decide), h main_arg3 (by decide), h main_arg4 (by decide),
    h main_arg5 (by decide), h main_v2 (by decide), show V1 m d main_v0 = tOf m d from Function.update_self _ _ _,
    show noisedIn (V1 m) d main_v1 = noisedAll (V1 m d main_arg3) (V1 m d main_arg4) (V1 m d main_arg1) (V1 m d main_arg2) (V1 m d main_arg0) (V1 m d main_arg5) from
      Function.update_self _ _ _,
    h main_arg0 (by decide), h main_arg1 (by decide), h main_arg2 (by decide), h main_arg3 (by decide), h main_arg4 (by decide),
    h main_arg5 (by decide)]
  rfl

/-- The program on one device's TensorCore. -/
theorem hmain [∀ e, Nonempty (Elt F e)] (hidx : ∀ d k, (idxOf m d k).toNat < 64) (htab : ∀ d k, (tabOf m d k).toNat < 1001)
    (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  obtain ⟨R, hR⟩ := tcSt_one (F := F) d
  iintro ⟨#Hctx, Hst, ⟨Hb, ⟨H0, H1, H2, H3, H4, H5, Ho, Hx, Hc⟩, Hts, -⟩, HG⟩
  iapply ((K (F := F)).wp_run (D (F := F)) 𝒱 (EH := EH) (P := P m) κ d 0) $$ [Hst H0 H1 H2 H3 H4 H5 Ho Hx Hc Hb Hts HG]
  isplitr; · iexact Hctx
  isplitl [Hst]; · iexact Hst
  isplitl [H3 H4 Ho]
  · rw [st0_eq]
    iexists _
    isplitl [H3]; · iexact H3
    isplitl [H4]; · iexact H4
    iexact Ho
  iintro ⟨Hst, Hdn⟩
  ihave Hdn' := (Entails.of_eq (dn0_eq m d)) $$ Hdn
  icases Hdn' with ⟨H3, H4, Ho⟩
  ihave Hst' := (show ((K (F := F)).tcSt EH d ((0 : Fin 1).val + 1) : sProp 𝕄) ⊢ iprop(settled d ∗ R) from Entails.of_eq hR) $$ Hst
  icases Hst' with ⟨HO, HR⟩
  ihave Hlv := ((K (F := F)).ctx_levAts κ) $$ Hctx
  have h3 : ∀ c k, (V1 m c main_arg3 k : BitVec 32).toNat < 1001 := fun c k => by
    rw [show V1 m c main_arg3 = m (loc c main_arg3) from Function.update_of_ne (by decide) _ _]; exact htab c k
  have h4 : ∀ c k, (V1 m c main_arg4 k : BitVec 32).toNat < 64 := fun c k => by
    rw [show V1 m c main_arg4 = m (loc c main_arg4) from Function.update_of_ne (by decide) _ _]; exact hidx c k
  iapply (call_run (V1 m) h4 h3 d)
  isplitr [Hb H0 H1 H2 H3 H4 H5 Ho Hx Hc HO HG]
  rotate_left
  · isplitl [Hb]; · iexact Hb
    isplitl [H0 H1 H2 H3 H4 H5 Ho Hx Hc HO]
    · isplitr [HO]
      · rw [bufs_V1]
        isplitl [H0]; · iexact H0
        isplitl [H1]; · iexact H1
        isplitl [H2]; · iexact H2
        isplitl [H3]; · iexact H3
        isplitl [H4]; · iexact H4
        isplitl [H5]; · iexact H5
        isplitl [Ho]; · iexact Ho
        isplitl [Hx]; · iexact Hx
        iexact Hc
      iexact HO
    isplitr; · iexact Hlv
    iexact HG
  iintro ⟨Hb, Hbufs, HO⟩
  ihave Hbufs' := (Entails.of_eq (bufs_noised m d)) $$ Hbufs
  icases Hbufs' with ⟨H0, H1, H2, H3, H4, H5, Ho, Hx, Hc⟩
  iapply (wp_hlo_within 𝒱 (SparseCore.T d) none Set.univ (op := opCol) (S := {v0', v2'}) hCol (V := V2 m d)) $$ [Hb Ho Hc]
  · isplitl [Hb]; · iexact Hb
    rw [held_col, V2_v0, V2_v2]
    isplitl [Ho]; · iexact Ho
    iexact Hc
  iintro ⟨Hb, Hheld⟩
  ihave Hh := (Entails.of_eq (held_col (F := F) d _)) $$ Hheld
  icases Hh with ⟨-, Hc⟩
  ihave Hc' := (Entails.of_eq (congrArg (pts d main_v2) (col_result m d))) $$ Hc
  rw [wp_ret]; imodintro; imodintro
  isplitl [HO HR]
  · iapply (Entails.of_eq hR.symm)
    isplitl [HO] <;> iassumption
  isplitr [Hb Hts]
  · isplitl [H0]; · iexact H0
    isplitl [H1]; · iexact H1
    isplitl [H2]; · iexact H2
    isplitl [H3]; · iexact H3
    isplitl [H4]; · iexact H4
    isplitl [H5]; · iexact H5
    isplitl [Hx]; · iexact Hx
    iexact Hc'
  isplitl [Hb] <;> iassumption

/-! ## The run -/

/-- A device's memory at the end: the arguments as they were, and the two results. -/
def fq (d : Dev nD) (s' : Phys nD τ sig (Elt F)) : Prop :=
  s'.mem.mem (loc d main_arg0) = m (loc d main_arg0) ∧ s'.mem.mem (loc d main_arg1) = m (loc d main_arg1)
    ∧ s'.mem.mem (loc d main_arg2) = m (loc d main_arg2) ∧ s'.mem.mem (loc d main_arg3) = m (loc d main_arg3)
    ∧ s'.mem.mem (loc d main_arg4) = m (loc d main_arg4) ∧ s'.mem.mem (loc d main_arg5) = m (loc d main_arg5)
    ∧ s'.mem.mem (loc d main_v1) = xOf m d ∧ s'.mem.mem (loc d main_v2) = colOf m d

/-- What the program leaves is what the memory holds. -/
theorem hfin (d : Dev nD) (s' : Phys nD τ sig (Elt F)) : iprop(FIN m d ∗ SI s') ⊢ (⌜fq m d s'⌝ : sProp 𝕄) := by
  iintro ⟨⟨H0, H1, H2, H3, H4, H5, Hx, Hc⟩, HSI⟩
  icombine HSI H0 gives %h0
  icombine HSI H1 gives %h1
  icombine HSI H2 gives %h2
  icombine HSI H3 gives %h3
  icombine HSI H4 gives %h4
  icombine HSI H5 gives %h5
  icombine HSI Hx gives %hx
  icombine HSI Hc gives %hc
  ipureintro
  exact ⟨Buf.eq_of_forall_mem_univ h0, Buf.eq_of_forall_mem_univ h1, Buf.eq_of_forall_mem_univ h2, Buf.eq_of_forall_mem_univ h3,
    Buf.eq_of_forall_mem_univ h4, Buf.eq_of_forall_mem_univ h5, Buf.eq_of_forall_mem_univ hx, Buf.eq_of_forall_mem_univ hc⟩

/-- The memory at the end, on every device, and no semaphore counting. -/
def QC : PUnit × MemSt nD τ sig (Elt F) → Prop := fun r =>
  (∀ c : Dev nD, r.2.mem (loc c main_arg0) = m (loc c main_arg0) ∧ r.2.mem (loc c main_arg1) = m (loc c main_arg1)
    ∧ r.2.mem (loc c main_arg2) = m (loc c main_arg2) ∧ r.2.mem (loc c main_arg3) = m (loc c main_arg3)
    ∧ r.2.mem (loc c main_arg4) = m (loc c main_arg4) ∧ r.2.mem (loc c main_arg5) = m (loc c main_arg5)
    ∧ r.2.mem (loc c main_v1) = xOf m c ∧ r.2.mem (loc c main_v2) = colOf m c) ∧ r.2.sem = fun _ => 0

/-- The program runs to its end from indices and times in range, and leaves the arguments, the noised array and the column. -/
theorem run_main [∀ e, Nonempty (Elt F e)] (hidx : ∀ d k, (idxOf m d k).toNat < 64) (htab : ∀ d k, (tabOf m d k).toNat < 1001) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hidx)
    (fun q hq => match q with | 0 => nomatch hq)
    (fun q hq => match q with | 0 => nomatch hq)
    m ρ main G (FIN m) (u₀ (F := F)) (sep_elim_left.trans (hu₀ m)) (hmain m ρ hidx htab) (fq m) (hfin m) (QC m) (fun _ h hz => ⟨h, hz⟩)

end Cert.Proof
-- ==== Proof.Value.lean ====
/-
  The reference's two results, element by element, at times and indices in range; and that the kernel's are the same.
-/
module

public import proofs.«01_k».proof.Proof.Gen.ReferenceIdeal.Run
public import proofs.«01_k».proof.Proof.Take
public import proofs.«01_k».proof.Proof.Main

@[expose] public section

noncomputable section

namespace Cert.Proof

open Idealize.ShloMosaic Idealize.ShloMosaic.TcCoe
open Cert.ReferenceIdeal (S_)

section Terms

variable {F : FTy → Type} [FloatOps F]

/-- The reference's second result before its reshape, of the table of times and the indices. -/
abbrev refTimes (tab : Cert.ReferenceIdeal.S64.Idx → BitVec 32) (idx : IVec Cert.ReferenceIdeal.S32 32) : IVec Cert.ReferenceIdeal.S32 32 :=
  takeTimes tab idx

/-- A looked-up coefficient spread over its sample. -/
abbrev spread (c : Cert.ReferenceIdeal.S32.Idx → F .f32) : Cert.ReferenceIdeal.S32x3x512x512.Idx → F .f32 :=
  broadcastInDim Cert.ReferenceIdeal.S32x3x512x512 ![0, 1, 2, 3] Cert.ReferenceIdeal.Gen.bcast_S32x1x1x1_S32x3x512x512_0_1_2_3
    (shapeCast Cert.ReferenceIdeal.S32x1x1x1 c Cert.ReferenceIdeal.Gen.shapeCasts_S32_S32x1x1x1)

/-- The fill of the schedule's look-up. -/
abbrev fill : S_.Idx → F .f32 := constant S_ .f32 0x7FC00000#32

/-- The reference's first result, of its arguments. -/
def refNoised (x : Cert.ReferenceIdeal.S32x3x512x512.Idx → F .f32) (at' bt : Cert.ReferenceIdeal.S1001.Idx → F .f32)
    (tab : Cert.ReferenceIdeal.S64.Idx → BitVec 32) (idx : IVec Cert.ReferenceIdeal.S32 32) (n : Cert.ReferenceIdeal.S32x3x512x512.Idx → F .f32) :
    Cert.ReferenceIdeal.S32x3x512x512.Idx → F .f32 :=
  addf (mulf (spread (takeSchedule fill at' (refTimes tab idx))) x)
    (mulf (spread (takeSchedule fill bt (refTimes tab idx)))
      (mulf n (broadcastInDim Cert.ReferenceIdeal.S32x3x512x512 ![] Cert.ReferenceIdeal.Gen.bcast_S_S32x3x512x512 (constant S_ .f32 0x3D4CCCCD#32))))

/-- A spread coefficient at an element is the coefficient of the element's sample. -/
theorem spread_apply (c : Cert.ReferenceIdeal.S32.Idx → F .f32) (y : Cert.ReferenceIdeal.S32x3x512x512.Idx) : spread c y = c (pos (y 0)) := by
  refine shapeCast_apply c _ _ (pos (y 0)) ?_
  rw [Shape.rowMajor_val_four, Shape.rowMajor_val_one]
  show (y 0).val % 32 = (((y 0).val * 1 + 0) * 1 + 0) * 1 + 0
  have : (y 0).val < 32 := (y 0).isLt
  omega

/-- The reference's looked-up times at indices in range. -/
theorem refTimes_eq (tab : Cert.ReferenceIdeal.S64.Idx → BitVec 32) (idx : IVec Cert.ReferenceIdeal.S32 32) (hi : ∀ k, (idx k).toNat < 64) :
    refTimes tab idx = lookup tab idx := funext fun k =>
  takeTimes_eq tab idx hi k (place (idx k)) (Nat.mod_eq_of_lt (hi k))

/-- A coefficient looked up at a time in range. -/
theorem coeff_eq (c : Cert.ReferenceIdeal.S1001.Idx → F .f32) (t : IVec Cert.ReferenceIdeal.S32 32) (ht : ∀ k, (t k).toNat < 1001) (k : Cert.ReferenceIdeal.S32.Idx) :
    takeSchedule fill c t k = c (level (t k)) := takeSchedule_eq fill c t ht k (level (t k)) (Nat.mod_eq_of_lt (ht k))

end Terms

/-- On the extended reals the reference's first result is the kernel's: its noise is scaled before it is multiplied by the
    coefficient, the kernel scales the coefficient. -/
theorem refNoised_eq (x : Cert.ReferenceIdeal.S32x3x512x512.Idx → Ideal .f32) (at' bt : Cert.ReferenceIdeal.S1001.Idx → Ideal .f32)
    (tab : Cert.ReferenceIdeal.S64.Idx → BitVec 32) (idx : IVec Cert.ReferenceIdeal.S32 32) (n : Cert.ReferenceIdeal.S32x3x512x512.Idx → Ideal .f32)
    (hi : ∀ k, (idx k).toNat < 64) (ht : ∀ k, (tab k).toNat < 1001) :
    refNoised x at' bt tab idx n = noisedAll tab idx at' bt x n := by
  have hl : ∀ k, (lookup tab idx k).toNat < 1001 := fun k => ht _
  funext y
  show spread (takeSchedule fill at' (refTimes tab idx)) y * x y
    + spread (takeSchedule fill bt (refTimes tab idx)) y * (n y * FloatOps.ofBits .f32 0x3D4CCCCD#32)
    = at' (level (lookup tab idx (pos (y 0)))) * x y + bt (level (lookup tab idx (pos (y 0)))) * FloatOps.ofBits .f32 0x3D4CCCCD#32 * n y
  rw [spread_apply, spread_apply, refTimes_eq tab idx hi, coeff_eq _ _ hl, coeff_eq _ _ hl, mul_comm (n y), mul_assoc]

section Run

open Cert.ReferenceIdeal Cert.ReferenceIdeal.Gen

variable {F : FTy → Type} [FloatOps F] (m : (ℓ : Loc nD τ sig) → Buf (Elt F) ℓ) (c : Dev nD)

/-- An array of the reference's memory. -/
abbrev rloc (b : Ref sig .tc) : Loc nD τ sig := (c.tc : Thread nD τ).loc b

set_option maxRecDepth 8192 in
/-- The reference's first result as its run states it. -/
theorem res_eq : Cert.ReferenceIdeal.Value.res_out0 m c
    = refNoised (m (rloc c main_arg0)) (m (rloc c main_arg1)) (m (rloc c main_arg2)) (m (rloc c main_arg3)) (m (rloc c main_arg4)) (m (rloc c main_arg5)) := rfl

end Run

end Cert.Proof
-- ==== Proof.Same.lean ====
/-
  No operation of the kernel is replaced, so the kernel and its ideal reading have the same text.  Their body tables are
  therefore equal, and one run serves both frames.
-/
module
public import proofs.«01_k».proof.Defs
public import proofs.«01_k».proof.Proof.Gen.Kernel
public import proofs.«01_k».proof.Proof.Main

@[expose] public section
noncomputable section
namespace Cert.Proof
open Idealize.ShloMosaic Idealize.ShloMosaic.TcCoe Idealize.SL.Sem
variable {F : FTy → Type} [FloatOps F]

set_option maxHeartbeats 4000000 in
/-- The two kernels' bodies are the same on every processor and at every label. -/
theorem same_bodies : Cert.Kernel.defs₀ (F := F) = Cert.KernelIdeal.defs₀ (F := F) := by
  funext p ℓ a
  match p, ℓ, a with
  | .scScalar c, 0, a => rfl
  | .scScalar c, 1, a => rfl
  | .scVector c s, ℓ, a => rfl
  | .tc, 0, a => rfl
  | .tc, 1, (t, s) => rfl

set_option maxHeartbeats 4000000 in
/-- So are the body tables with the pipeline and the SparseCore call added. -/
theorem same_defs : Cert.Kernel.defs (F := F) = Cert.KernelIdeal.defs (F := F) :=
  congrArg (fun d => (Cert.KernelIdeal.sc (F := F)).defs
    (Pipeline.defs (Cert.KernelIdeal.pcfgs (F := F)) d)) same_bodies

end Cert.Proof
-- ==== Proof.lean ====
/-
  The claims: the kernel and its ideal reading run and leave their arguments, they are the same program, and on the extended
  reals the kernel's two results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Range
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem

/-! ## The kernel -/

/-- The words of the kernel's arguments are in range under the precondition. -/
theorem kernel_words {F : FTy → Type} [FloatOps F]
    (m : (ℓ : Loc Cert.KernelIdeal.nD Cert.KernelIdeal.τ Cert.KernelIdeal.sig) → Buf (Elt F) ℓ)
    (h : ∀ d : Dev Cert.KernelIdeal.nD, Cert.Pre_in_range.fn (F := F) (m (loc d Cert.KernelIdeal.main_arg0)) (m (loc d Cert.KernelIdeal.main_arg1))
      (m (loc d Cert.KernelIdeal.main_arg2)) (m (loc d Cert.KernelIdeal.main_arg3)) (m (loc d Cert.KernelIdeal.main_arg4))
      (m (loc d Cert.KernelIdeal.main_arg5)) = fun _ => 1#1) :
    (∀ d k, (idxOf m d k).toNat < 64) ∧ ∀ d k, (tabOf m d k).toNat < 1001 :=
  ⟨fun d k => (in_range_words _ _ _ _ _ _ (h d)).2 k, fun d k => (in_range_words _ _ _ _ _ _ (h d)).1 k⟩

set_option maxHeartbeats 4000000 in
/-- The kernel runs, leaves its arguments and no semaphore counting. -/
theorem frame_kernel : Cert.quiescent_Kernel := by
  intro m ρ h
  have w := kernel_words (F := Bits) m h
  have run : ∀ d, d = Cert.KernelIdeal.defs (F := Bits) →
      θ_run d (Cert.KernelIdeal.threads (F := Bits)) ⟨m, fun _ => 0, ρ⟩ (QC m) := by
    rintro _ rfl
    exact run_main (F := Bits) m ρ w.1 w.2
  refine (θ_run Cert.Kernel.defs _ _).mono (fun _ h => ⟨fun c => ?_, h.2⟩) (run _ same_defs)
  obtain ⟨h0, h1, h2, h3, h4, h5, -⟩ := h.1 c
  exact ⟨h0, h1, h2, h3, h4, h5⟩

/-- So does its ideal reading. -/
theorem frame_kernelIdeal : Cert.quiescent_KernelIdeal := fun m ρ h =>
  have w := kernel_words (F := Ideal) m h
  (θ_run Cert.KernelIdeal.defs _ _).mono
    (fun _ h => ⟨fun c => ⟨(h.1 c).1, (h.1 c).2.1, (h.1 c).2.2.1, (h.1 c).2.2.2.1, (h.1 c).2.2.2.2.1, (h.1 c).2.2.2.2.2.1⟩, h.2⟩)
    (run_main (F := Ideal) m ρ w.1 w.2)

/-! ## The reference -/

section Reference

open Cert.ReferenceIdeal

/-- The reference runs and leaves its arguments; it has no semaphore. -/
theorem frame_reference : Cert.quiescent_ReferenceIdeal := fun m ρ _ =>
  (θ_run defs _ _).mono
    (fun r h => ⟨fun c => (h c).2.2, sem_eq_zero_of_no_sems (by decide) r.2⟩)
    (Cert.ReferenceIdeal.Value.run (F := Ideal) m ρ)

/-- The same under the precondition. -/
theorem frame_reference_in_range : Cert.quiescent_ReferenceIdeal_pre_in_range := fun m ρ _ => frame_reference m ρ trivial

/-- The reference's first result is the noised sample, its second the column of its looked-up times. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (rloc c main_v11) = refNoised (F := Ideal) (m (rloc c main_arg0)) (m (rloc c main_arg1)) (m (rloc c main_arg2)) (m (rloc c main_arg3))
          (m (rloc c main_arg4)) (m (rloc c main_arg5))
        ∧ r.2.mem (rloc c main_v12) = shapeCast S32x1 (refTimes (m (rloc c main_arg3)) (m (rloc c main_arg4))) Gen.shapeCasts_S32_S32x1
        ∧ r.2.mem (rloc c main_arg0) = m (rloc c main_arg0) ∧ r.2.mem (rloc c main_arg1) = m (rloc c main_arg1)
        ∧ r.2.mem (rloc c main_arg2) = m (rloc c main_arg2) ∧ r.2.mem (rloc c main_arg3) = m (rloc c main_arg3)
        ∧ r.2.mem (rloc c main_arg4) = m (rloc c main_arg4) ∧ r.2.mem (rloc c main_arg5) = m (rloc c main_arg5) :=
  (θ_run defs _ _).mono (fun _ h c => ⟨(h c).1.trans (res_eq m c), (h c).2⟩) (Cert.ReferenceIdeal.Value.run (F := Ideal) m ρ)

end Reference

/-! ## The two together -/

/-- On the extended reals both results of the kernel are the reference's. -/
theorem results_equal : Cert.algebraic_KernelIdeal_ReferenceIdeal := by
  intro m ρ m' ρ' h hm
  have w := kernel_words (F := Ideal) m h
  refine ⟨fun c => xOf m c, fun c => colOf m c, ?_, ?_⟩
  · refine (θ_run Cert.KernelIdeal.defs _ _).mono (fun _ h c => ?_) (run_main (F := Ideal) m ρ w.1 w.2)
    obtain ⟨h0, h1, h2, h3, h4, h5, hx, hc⟩ := h.1 c
    exact ⟨hx, hc, h0, h1, h2, h3, h4, h5⟩
  · refine (θ_run Cert.ReferenceIdeal.defs _ _).mono (fun _ h c => ?_) (reference_run m' ρ')
    obtain ⟨hx, hc, hargs⟩ := h c
    obtain ⟨e0, e1, e2, e3, e4, e5⟩ := hm c
    refine ⟨hx.trans ?_, hc.trans ?_, hargs⟩
    · refine Eq.trans ?_ (refNoised_eq _ _ _ _ _ _ (w.1 c) (w.2 c))
      exact congr (congr (congr (congr (congr (congrArg refNoised e0) e1) e2) e3) e4) e5
    · refine congrArg (fun t => shapeCast Cert.ReferenceIdeal.S32x1 t Cert.ReferenceIdeal.Gen.shapeCasts_S32_S32x1) ?_
      exact (congr (congrArg refTimes e3) e4).trans (refTimes_eq _ _ (w.1 c))

/-- Every claim. -/
theorem claim : Cert.Claim := ⟨Cert.Kernel.Gen.facts, Cert.KernelIdeal.Gen.facts, Cert.ReferenceIdeal.Gen.facts, Cert.Pre_in_range.Gen.facts,
  frame_kernel, frame_kernelIdeal, frame_reference, frame_reference_in_range, trivial, results_equal⟩

end Cert.Proof

end
